-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "step" .f32 0x3C12F114#32 ((2 / 223 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v41)) (v2 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_v44) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_values) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x3x224x224 : Shape := ⟨4, ![2, 3, 224, 224]⟩
abbrev S2x128 : Shape := ⟨2, ![2, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩
abbrev S223 : Shape := ⟨1, ![223]⟩
abbrev S1 : Shape := ⟨1, ![1]⟩
abbrev S224 : Shape := ⟨1, ![224]⟩
abbrev S224x224 : Shape := ⟨2, ![224, 224]⟩
abbrev S224x224x1 : Shape := ⟨3, ![224, 224, 1]⟩
abbrev S224x224x2 : Shape := ⟨3, ![224, 224, 2]⟩
abbrev S50176x2 : Shape := ⟨2, ![50176, 2]⟩
abbrev S1x128 : Shape := ⟨2, ![1, 128]⟩
abbrev S50176x128 : Shape := ⟨2, ![50176, 128]⟩
abbrev S128x50176 : Shape := ⟨2, ![128, 50176]⟩
abbrev S6272x2 : Shape := ⟨2, ![6272, 2]⟩
abbrev S6272x128 : Shape := ⟨2, ![6272, 128]⟩
abbrev S128x6272 : Shape := ⟨2, ![128, 6272]⟩
abbrev S50176x3 : Shape := ⟨2, ![50176, 3]⟩
abbrev S1x3 : Shape := ⟨2, ![1, 3]⟩
abbrev S3x50176 : Shape := ⟨2, ![3, 50176]⟩
abbrev S1x3x50176 : Shape := ⟨3, ![1, 3, 50176]⟩
abbrev S2x3x50176 : Shape := ⟨3, ![2, 3, 50176]⟩
abbrev S1x128x50176 : Shape := ⟨3, ![1, 128, 50176]⟩
abbrev S2x128x50176 : Shape := ⟨3, ![2, 128, 50176]⟩
abbrev S2x1x128x50176 : Shape := ⟨4, ![2, 1, 128, 50176]⟩
abbrev S2x3x1x50176 : Shape := ⟨4, ![2, 3, 1, 50176]⟩
abbrev S2x3x128x50176 : Shape := ⟨4, ![2, 3, 128, 50176]⟩
abbrev S2x3x129x50176 : Shape := ⟨4, ![2, 3, 129, 50176]⟩
abbrev S2x387x50176 : Shape := ⟨3, ![2, 387, 50176]⟩
abbrev S2x50176 : Shape := ⟨2, ![2, 50176]⟩
abbrev S2x15360 : Shape := ⟨2, ![2, 15360]⟩
abbrev S2x65536 : Shape := ⟨2, ![2, 65536]⟩
abbrev S2x512x128 : Shape := ⟨3, ![2, 512, 128]⟩
abbrev S2x512x32 : Shape := ⟨3, ![2, 512, 32]⟩
abbrev S8x128 : Shape := ⟨2, ![8, 128]⟩
abbrev S2x1x128 : Shape := ⟨3, ![2, 1, 128]⟩
abbrev S2x511x128 : Shape := ⟨3, ![2, 511, 128]⟩
abbrev S2x2x128 : Shape := ⟨3, ![2, 2, 128]⟩
abbrev S2x510x128 : Shape := ⟨3, ![2, 510, 128]⟩
abbrev S2x4x128 : Shape := ⟨3, ![2, 4, 128]⟩
abbrev S2x508x128 : Shape := ⟨3, ![2, 508, 128]⟩
abbrev S2x8x128 : Shape := ⟨3, ![2, 8, 128]⟩
abbrev S2x504x128 : Shape := ⟨3, ![2, 504, 128]⟩
abbrev S2x16x128 : Shape := ⟨3, ![2, 16, 128]⟩
abbrev S2x496x128 : Shape := ⟨3, ![2, 496, 128]⟩
abbrev S2x32x128 : Shape := ⟨3, ![2, 32, 128]⟩
abbrev S2x480x128 : Shape := ⟨3, ![2, 480, 128]⟩
abbrev S2x64x128 : Shape := ⟨3, ![2, 64, 128]⟩
abbrev S2x448x128 : Shape := ⟨3, ![2, 448, 128]⟩
abbrev S2x128x128 : Shape := ⟨3, ![2, 128, 128]⟩
abbrev S2x384x128 : Shape := ⟨3, ![2, 384, 128]⟩
abbrev S2x256x128 : Shape := ⟨3, ![2, 256, 128]⟩
abbrev S2x512x1 : Shape := ⟨3, ![2, 512, 1]⟩
abbrev S2x512x127 : Shape := ⟨3, ![2, 512, 127]⟩
abbrev S2x512x2 : Shape := ⟨3, ![2, 512, 2]⟩
abbrev S2x512x126 : Shape := ⟨3, ![2, 512, 126]⟩
abbrev S2x512x4 : Shape := ⟨3, ![2, 512, 4]⟩
abbrev S2x512x124 : Shape := ⟨3, ![2, 512, 124]⟩
abbrev S2x512x8 : Shape := ⟨3, ![2, 512, 8]⟩
abbrev S2x512x120 : Shape := ⟨3, ![2, 512, 120]⟩
abbrev S2x512x16 : Shape := ⟨3, ![2, 512, 16]⟩
abbrev S2x512x112 : Shape := ⟨3, ![2, 512, 112]⟩
abbrev S2x512x96 : Shape := ⟨3, ![2, 512, 96]⟩
abbrev S2x512x64 : Shape := ⟨3, ![2, 512, 64]⟩
abbrev S2x32x512 : Shape := ⟨3, ![2, 32, 512]⟩
abbrev S2x16384 : Shape := ⟨2, ![2, 16384]⟩
abbrev S2x12544 : Shape := ⟨2, ![2, 12544]⟩
abbrev S2x12544x1 : Shape := ⟨3, ![2, 12544, 1]⟩
abbrev S2x12544x2 : Shape := ⟨3, ![2, 12544, 2]⟩

abbrev nBuf : Space → Nat
  | .hbm => 115
  | .vmem => 16
  | .smem => 0
  | _ => 0

abbrev bufTy : (tb : Table) → Fin (tcTables nBuf tb) → BufTy
  | .hbm, ⟨0, _⟩ => ⟨S2x3x224x224, .f32⟩
  | .hbm, ⟨1, _⟩ => ⟨S2x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x3, .f32⟩
  | .hbm, ⟨6, _⟩ => ⟨S3, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S223, .f32⟩
  | .hbm, ⟨15, _⟩ => ⟨S_, .f32⟩
  | .hbm, ⟨16, _⟩ => ⟨S223, .f32⟩
  | .hbm, ⟨17, _⟩ => ⟨S223, .f32⟩
  | .hbm, ⟨18, _⟩ => ⟨S1, .f32⟩
  | .hbm, ⟨19, _⟩ => ⟨S_, .f32⟩
  | .hbm, ⟨20, _⟩ => ⟨S223, .f32⟩
  | .hbm, ⟨21, _⟩ => ⟨S223, .f32⟩
  | .hbm, ⟨22, _⟩ => ⟨S223, .f32⟩
  | .hbm, ⟨23, _⟩ => ⟨S223, .f32⟩
  | .hbm, ⟨24, _⟩ => ⟨S1, .f32⟩
  | .hbm, ⟨25, _⟩ => ⟨S223, .f32⟩
  | .hbm, ⟨26, _⟩ => ⟨S223, .f32⟩
  | .hbm, ⟨27, _⟩ => ⟨S223, .f32⟩
  | .hbm, ⟨28, _⟩ => ⟨S1, .f32⟩
  | .hbm, ⟨29, _⟩ => ⟨S224, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S223, .f32⟩
  | .hbm, ⟨38, _⟩ => ⟨S_, .f32⟩
  | .hbm, ⟨39, _⟩ => ⟨S223, .f32⟩
  | .hbm, ⟨40, _⟩ => ⟨S223, .f32⟩
  | .hbm, ⟨41, _⟩ => ⟨S1, .f32⟩
  | .hbm, ⟨42, _⟩ => ⟨S_, .f32⟩
  | .hbm, ⟨43, _⟩ => ⟨S223, .f32⟩
  | .hbm, ⟨44, _⟩ => ⟨S223, .f32⟩
  | .hbm, ⟨45, _⟩ => ⟨S223, .f32⟩
  | .hbm, ⟨46, _⟩ => ⟨S223, .f32⟩
  | .hbm, ⟨47, _⟩ => ⟨S1, .f32⟩
  | .hbm, ⟨48, _⟩ => ⟨S223, .f32⟩
  | .hbm, ⟨49, _⟩ => ⟨S223, .f32⟩
  | .hbm, ⟨50, _⟩ => ⟨S223, .f32⟩
  | .hbm, ⟨51, _⟩ => ⟨S1, .f32⟩
  | .hbm, ⟨52, _⟩ => ⟨S224, .f32⟩
  | .hbm, ⟨53, _⟩ => ⟨S224x224, .f32⟩
  | .hbm, ⟨54, _⟩ => ⟨S224x224, .f32⟩
  | .hbm, ⟨55, _⟩ => ⟨S224x224x1, .f32⟩
  | .hbm, ⟨56, _⟩ => ⟨S224x224x1, .f32⟩
  | .hbm, ⟨57, _⟩ => ⟨S224x224x2, .f32⟩
  | .hbm, ⟨58, _⟩ => ⟨S50176x2, .f32⟩
  | .hbm, ⟨59, _⟩ => ⟨S1x128, .f32⟩
  | .hbm, ⟨60, _⟩ => ⟨S1x128, .f32⟩
  | .hbm, ⟨61, _⟩ => ⟨S50176x128, .f32⟩
  | .hbm, ⟨62, _⟩ => ⟨S128x50176, .f32⟩
  | .hbm, ⟨63, _⟩ => ⟨S50176x3, .f32⟩
  | .hbm, ⟨64, _⟩ => ⟨S1x3, .f32⟩
  | .hbm, ⟨65, _⟩ => ⟨S50176x3, .f32⟩
  | .hbm, ⟨66, _⟩ => ⟨S50176x3, .f32⟩
  | .hbm, ⟨67, _⟩ => ⟨S3x50176, .f32⟩
  | .hbm, ⟨68, _⟩ => ⟨S1x3x50176, .f32⟩
  | .hbm, ⟨69, _⟩ => ⟨S2x3x50176, .f32⟩
  | .hbm, ⟨70, _⟩ => ⟨S1x128x50176, .f32⟩
  | .hbm, ⟨71, _⟩ => ⟨S2x128x50176, .f32⟩
  | .hbm, ⟨72, _⟩ => ⟨S2x3x50176, .f32⟩
  | .hbm, ⟨73, _⟩ => ⟨S2x3x50176, .f32⟩
  | .hbm, ⟨74, _⟩ => ⟨S2x1x128x50176, .f32⟩
  | .hbm, ⟨75, _⟩ => ⟨S_, .f32⟩
  | .hbm, ⟨76, _⟩ => ⟨S2x1x128x50176, .f32⟩
  | .hbm, ⟨77, _⟩ => ⟨S2x1x128x50176, .f32⟩
  | .hbm, ⟨78, _⟩ => ⟨S2x3x1x50176, .f32⟩
  | .hbm, ⟨79, _⟩ => ⟨S2x3x128x50176, .f32⟩
  | .hbm, ⟨80, _⟩ => ⟨S2x3x128x50176, .f32⟩
  | .hbm, ⟨81, _⟩ => ⟨S2x3x128x50176, .f32⟩
  | .hbm, ⟨82, _⟩ => ⟨S2x3x1x50176, .f32⟩
  | .hbm, ⟨83, _⟩ => ⟨S_, .f32⟩
  | .hbm, ⟨84, _⟩ => ⟨S2x3x1x50176, .f32⟩
  | .hbm, ⟨85, _⟩ => ⟨S2x3x1x50176, .f32⟩
  | .hbm, ⟨86, _⟩ => ⟨S2x3x129x50176, .f32⟩
  | .hbm, ⟨87, _⟩ => ⟨S2x387x50176, .f32⟩
  | .hbm, ⟨88, _⟩ => ⟨S2x387x50176, .f32⟩
  | .hbm, ⟨89, _⟩ => ⟨S_, .f32⟩
  | .hbm, ⟨90, _⟩ => ⟨S2x50176, .f32⟩
  | .hbm, ⟨91, _⟩ => ⟨S2x50176, .f32⟩
  | .hbm, ⟨92, _⟩ => ⟨S_, .f32⟩
  | .hbm, ⟨93, _⟩ => ⟨S2x15360, .f32⟩
  | .hbm, ⟨94, _⟩ => ⟨S2x65536, .f32⟩
  | .hbm, ⟨95, _⟩ => ⟨S2x512x128, .f32⟩
  | .hbm, ⟨96, _⟩ => ⟨S2x512x32, .f32⟩
  | .hbm, ⟨97, _⟩ => ⟨S2x512x32, .i32⟩
  | .hbm, ⟨98, _⟩ => ⟨S2x512x32, .f32⟩
  | .hbm, ⟨99, _⟩ => ⟨S2x512x32, .f32⟩
  | .hbm, ⟨100, _⟩ => ⟨S2x32x512, .f32⟩
  | .hbm, ⟨101, _⟩ => ⟨S2x16384, .f32⟩
  | .hbm, ⟨102, _⟩ => ⟨S2x12544, .f32⟩
  | .hbm, ⟨103, _⟩ => ⟨S2x32x512, .i32⟩
  | .hbm, ⟨104, _⟩ => ⟨S2x16384, .i32⟩
  | .hbm, ⟨105, _⟩ => ⟨S2x12544, .i32⟩
  | .hbm, ⟨106, _⟩ => ⟨S2x32x512, .f32⟩
  | .hbm, ⟨107, _⟩ => ⟨S2x16384, .f32⟩
  | .hbm, ⟨108, _⟩ => ⟨S2x12544, .f32⟩
  | .hbm, ⟨109, _⟩ => ⟨S2x32x512, .f32⟩
  | .hbm, ⟨110, _⟩ => ⟨S2x16384, .f32⟩
  | .hbm, ⟨111, _⟩ => ⟨S2x12544, .f32⟩
  | .hbm, ⟨112, _⟩ => ⟨S2x12544x1, .f32⟩
  | .hbm, ⟨113, _⟩ => ⟨S2x12544x1, .f32⟩
  | .hbm, ⟨114, _⟩ => ⟨S2x12544x2, .f32⟩
  | .local _ .vmem, ⟨0, _⟩ => ⟨S6272x2, .f32⟩
  | .local _ .vmem, ⟨1, _⟩ => ⟨S6272x2, .f32⟩
  | .local _ .vmem, ⟨2, _⟩ => ⟨S2x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S6272x128, .f32⟩
  | .local _ .vmem, ⟨7, _⟩ => ⟨S6272x128, .f32⟩
  | .local _ .vmem, ⟨8, _⟩ => ⟨S128x6272, .f32⟩
  | .local _ .vmem, ⟨9, _⟩ => ⟨S128x6272, .f32⟩
  | .local _ .vmem, ⟨10, _⟩ => ⟨S2x512x128, .f32⟩
  | .local _ .vmem, ⟨11, _⟩ => ⟨S2x512x32, .f32⟩
  | .local _ .vmem, ⟨12, _⟩ => ⟨S2x512x32, .i32⟩
  | .local _ .vmem, ⟨13, _⟩ => ⟨S2x512x32, .f32⟩
  | .local _ .vmem, ⟨14, _⟩ => ⟨S2x512x32, .f32⟩
  | .local _ .vmem, ⟨15, _⟩ => ⟨S8x128, .f32⟩
  | _, _ => ⟨S2x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_cst : Ref sig .tc := ⟨.hbm, 12, rfl⟩
abbrev main_call0_v3 : Ref sig .tc := ⟨.hbm, 13, rfl⟩
abbrev main_call0_v4 : Ref sig .tc := ⟨.hbm, 14, rfl⟩
abbrev main_call0_cst_0 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_v0 : Ref sig .tc := ⟨.hbm, 29, rfl⟩
abbrev main_cst_1 : Ref sig .tc := ⟨.hbm, 30, rfl⟩
abbrev main_cst_2 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_cst : Ref sig .tc := ⟨.hbm, 35, rfl⟩
abbrev main_call1_v3 : Ref sig .tc := ⟨.hbm, 36, rfl⟩
abbrev main_call1_v4 : Ref sig .tc := ⟨.hbm, 37, rfl⟩
abbrev main_call1_cst_0 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_cst_1 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_v15 : Ref sig .tc := ⟨.hbm, 50, rfl⟩
abbrev main_call1_v16 : Ref sig .tc := ⟨.hbm, 51, rfl⟩
abbrev main_v1 : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10_0 : Ref sig .tc := ⟨.hbm, 61, rfl⟩
abbrev main_v10_1 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_cst_3 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_cst_4 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_call2_v0 : Ref sig .tc := ⟨.hbm, 88, rfl⟩
abbrev main_call2_cst : Ref sig .tc := ⟨.hbm, 89, rfl⟩
abbrev main_call2_v1 : Ref sig .tc := ⟨.hbm, 90, rfl⟩
abbrev main_v34 : Ref sig .tc := ⟨.hbm, 91, rfl⟩
abbrev main_cst_5 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38_0 : Ref sig .tc := ⟨.hbm, 96, rfl⟩
abbrev main_v38_1 : Ref sig .tc := ⟨.hbm, 97, rfl⟩
abbrev main_v38_2 : Ref sig .tc := ⟨.hbm, 98, rfl⟩
abbrev main_v38_3 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S6272x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6272x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x6272 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := .none

abbrev stage1_0 : Fin 1 → Memref sig .tc .vmem S2x512x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2x512x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2x512x32 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2x512x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S2x512x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== KernelIdeal.lean ====
variable {F : FTy → Type} [FloatOps F] [Named F]
def κ : String → Option EReal := fun
  | "step" => some ((2 / 223 : ℝ) : EReal)
  | _ => none
-- ==== ReferenceIdeal.lean ====
abbrev S2x3x224x224 : Shape := ⟨4, ![2, 3, 224, 224]⟩
abbrev S2x128 : Shape := ⟨2, ![2, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩
abbrev S223 : Shape := ⟨1, ![223]⟩
abbrev S1 : Shape := ⟨1, ![1]⟩
abbrev S224 : Shape := ⟨1, ![224]⟩
abbrev S224x224 : Shape := ⟨2, ![224, 224]⟩
abbrev S224x224x1 : Shape := ⟨3, ![224, 224, 1]⟩
abbrev S224x224x2 : Shape := ⟨3, ![224, 224, 2]⟩
abbrev S50176x2 : Shape := ⟨2, ![50176, 2]⟩
abbrev S1x50176x2 : Shape := ⟨3, ![1, 50176, 2]⟩
abbrev S2x50176x2 : Shape := ⟨3, ![2, 50176, 2]⟩
abbrev S2x50176x128 : Shape := ⟨3, ![2, 50176, 128]⟩
abbrev S1x1x128 : Shape := ⟨3, ![1, 1, 128]⟩
abbrev S2x50176x3 : Shape := ⟨3, ![2, 50176, 3]⟩
abbrev S1x1x3 : Shape := ⟨3, ![1, 1, 3]⟩
abbrev S2x3x50176 : Shape := ⟨3, ![2, 3, 50176]⟩
abbrev S2x128x50176 : Shape := ⟨3, ![2, 128, 50176]⟩
abbrev S2x1x128x50176 : Shape := ⟨4, ![2, 1, 128, 50176]⟩
abbrev S2x3x1x50176 : Shape := ⟨4, ![2, 3, 1, 50176]⟩
abbrev S2x3x128x50176 : Shape := ⟨4, ![2, 3, 128, 50176]⟩
abbrev S2x3x129x50176 : Shape := ⟨4, ![2, 3, 129, 50176]⟩
abbrev S2x387x50176 : Shape := ⟨3, ![2, 387, 50176]⟩
abbrev S2x50176 : Shape := ⟨2, ![2, 50176]⟩
abbrev S2x12544 : Shape := ⟨2, ![2, 12544]⟩
abbrev S2x12544x1 : Shape := ⟨3, ![2, 12544, 1]⟩
abbrev S2x12544x2 : Shape := ⟨3, ![2, 12544, 2]⟩
abbrev S2x12544x2x1 : Shape := ⟨4, ![2, 12544, 2, 1]⟩
abbrev S1x1x1x1 : Shape := ⟨4, ![1, 1, 1, 1]⟩

abbrev nBuf : Space → Nat
  | .hbm => 129
  | .vmem => 0
  | .smem => 0
  | _ => 0

abbrev hbmTy0_0 (i : Nat) : BufTy := match i % 128 with
  | 0 => ⟨S2x3x224x224, .f32⟩
  | 1 => ⟨S2x128, .f32⟩
  | 2 => ⟨S128, .f32⟩
  | 3 => ⟨S128x128, .f32⟩
  | 4 => ⟨S128, .f32⟩
  | 5 => ⟨S128x3, .f32⟩
  | 6 => ⟨S3, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S223, .f32⟩
  | 15 => ⟨S_, .f32⟩
  | 16 => ⟨S223, .f32⟩
  | 17 => ⟨S223, .f32⟩
  | 18 => ⟨S1, .f32⟩
  | 19 => ⟨S_, .f32⟩
  | 20 => ⟨S223, .f32⟩
  | 21 => ⟨S223, .f32⟩
  | 22 => ⟨S223, .f32⟩
  | 23 => ⟨S223, .f32⟩
  | 24 => ⟨S1, .f32⟩
  | 25 => ⟨S223, .f32⟩
  | 26 => ⟨S223, .f32⟩
  | 27 => ⟨S223, .f32⟩
  | 28 => ⟨S1, .f32⟩
  | 29 => ⟨S224, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S223, .f32⟩
  | 38 => ⟨S_, .f32⟩
  | 39 => ⟨S223, .f32⟩
  | 40 => ⟨S223, .f32⟩
  | 41 => ⟨S1, .f32⟩
  | 42 => ⟨S_, .f32⟩
  | 43 => ⟨S223, .f32⟩
  | 44 => ⟨S223, .f32⟩
  | 45 => ⟨S223, .f32⟩
  | 46 => ⟨S223, .f32⟩
  | 47 => ⟨S1, .f32⟩
  | 48 => ⟨S223, .f32⟩
  | 49 => ⟨S223, .f32⟩
  | 50 => ⟨S223, .f32⟩
  | 51 => ⟨S1, .f32⟩
  | 52 => ⟨S224, .f32⟩
  | 53 => ⟨S224x224, .f32⟩
  | 54 => ⟨S224x224, .f32⟩
  | 55 => ⟨S224x224x1, .f32⟩
  | 56 => ⟨S224x224x1, .f32⟩
  | 57 => ⟨S224x224x2, .f32⟩
  | 58 => ⟨S50176x2, .f32⟩
  | 59 => ⟨S1x50176x2, .f32⟩
  | 60 => ⟨S2x50176x2, .f32⟩
  | 61 => ⟨S2x50176x128, .f32⟩
  | 62 => ⟨S1x1x128, .f32⟩
  | 63 => ⟨S2x50176x128, .f32⟩
  | 64 => ⟨S2x50176x128, .f32⟩
  | 65 => ⟨S_, .f32⟩
  | 66 => ⟨S2x50176x128, .f32⟩
  | 67 => ⟨S2x50176x128, .f32⟩
  | 68 => ⟨S2x50176x128, .f32⟩
  | 69 => ⟨S2x50176x128, .f32⟩
  | 70 => ⟨S1x1x128, .f32⟩
  | 71 => ⟨S2x50176x128, .f32⟩
  | 72 => ⟨S2x50176x128, .f32⟩
  | 73 => ⟨S_, .f32⟩
  | 74 => ⟨S2x50176x128, .f32⟩
  | 75 => ⟨S2x50176x128, .f32⟩
  | 76 => ⟨S2x50176x128, .f32⟩
  | 77 => ⟨S2x50176x3, .f32⟩
  | 78 => ⟨S1x1x3, .f32⟩
  | 79 => ⟨S2x50176x3, .f32⟩
  | 80 => ⟨S2x50176x3, .f32⟩
  | 81 => ⟨S2x3x50176, .f32⟩
  | 82 => ⟨S2x128x50176, .f32⟩
  | 83 => ⟨S2x3x50176, .f32⟩
  | 84 => ⟨S2x3x50176, .f32⟩
  | 85 => ⟨S2x1x128x50176, .f32⟩
  | 86 => ⟨S_, .f32⟩
  | 87 => ⟨S2x1x128x50176, .f32⟩
  | 88 => ⟨S2x1x128x50176, .f32⟩
  | 89 => ⟨S2x3x1x50176, .f32⟩
  | 90 => ⟨S2x3x128x50176, .f32⟩
  | 91 => ⟨S2x3x128x50176, .f32⟩
  | 92 => ⟨S2x3x128x50176, .f32⟩
  | 93 => ⟨S2x3x1x50176, .f32⟩
  | 94 => ⟨S_, .f32⟩
  | 95 => ⟨S2x3x1x50176, .f32⟩
  | 96 => ⟨S2x3x1x50176, .f32⟩
  | 97 => ⟨S2x3x129x50176, .f32⟩
  | 98 => ⟨S2x387x50176, .f32⟩
  | 99 => ⟨S2x387x50176, .f32⟩
  | 100 => ⟨S_, .f32⟩
  | 101 => ⟨S2x50176, .f32⟩
  | 102 => ⟨S2x50176, .f32⟩
  | 103 => ⟨S2x12544, .f32⟩
  | 104 => ⟨S2x12544, .i32⟩
  | 105 => ⟨S2x12544x1, .i32⟩
  | 106 => ⟨S2x12544x2, .i32⟩
  | 107 => ⟨S_, .i32⟩
  | 108 => ⟨S2x12544x2, .i32⟩
  | 109 => ⟨S2x12544x2, .i1⟩
  | 110 => ⟨S_, .i32⟩
  | 111 => ⟨S2x12544x2, .i32⟩
  | 112 => ⟨S2x12544x2, .i32⟩
  | 113 => ⟨S2x12544x2, .i32⟩
  | 114 => ⟨S2x12544x2x1, .i32⟩
  | 115 => ⟨S1, .i32⟩
  | 116 => ⟨S_, .i32⟩
  | 117 => ⟨S2x12544x2x1, .i32⟩
  | 118 => ⟨S2x12544x2x1, .i1⟩
  | 119 => ⟨S1x1x1x1, .i32⟩
  | 120 => ⟨S2x12544x2x1, .i32⟩
  | 121 => ⟨S2x12544x2x1, .i1⟩
  | 122 => ⟨S2x12544x2x1, .i1⟩
  | 123 => ⟨S_, .i1⟩
  | 124 => ⟨S2x12544x2, .i1⟩
  | 125 => ⟨S2x12544x2, .f32⟩
  | 126 => ⟨S_, .f32⟩
  | 127 => ⟨S2x12544x2, .f32⟩
  | _ => ⟨S2x3x224x224, .f32⟩

abbrev hbmTy0_1 (i : Nat) : BufTy := match i % 128 with
  | 0 => ⟨S2x12544x2, .f32⟩
  | _ => ⟨S2x3x224x224, .f32⟩

abbrev hbmTy (i : Nat) : BufTy := match i / 128 with
  | 0 => hbmTy0_0 i
  | 1 => hbmTy0_1 i
  | _ => ⟨S2x3x224x224, .f32⟩

abbrev bufTy : (tb : Table) → Fin (tcTables nBuf tb) → BufTy
  | .hbm, ⟨i, _⟩ => hbmTy i
  | _, _ => ⟨S2x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_cst : Ref sig .tc := ⟨.hbm, 12, rfl⟩
abbrev main_call0_v3 : Ref sig .tc := ⟨.hbm, 13, rfl⟩
abbrev main_call0_v4 : Ref sig .tc := ⟨.hbm, 14, rfl⟩
abbrev main_call0_cst_0 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_v0 : Ref sig .tc := ⟨.hbm, 29, rfl⟩
abbrev main_cst_1 : Ref sig .tc := ⟨.hbm, 30, rfl⟩
abbrev main_cst_2 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_cst : Ref sig .tc := ⟨.hbm, 35, rfl⟩
abbrev main_call1_v3 : Ref sig .tc := ⟨.hbm, 36, rfl⟩
abbrev main_call1_v4 : Ref sig .tc := ⟨.hbm, 37, rfl⟩
abbrev main_call1_cst_0 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_cst_1 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_v15 : Ref sig .tc := ⟨.hbm, 50, rfl⟩
abbrev main_call1_v16 : Ref sig .tc := ⟨.hbm, 51, rfl⟩
abbrev main_v1 : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_cst_3 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_cst_4 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_cst_5 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_cst_6 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_call2_v0 : Ref sig .tc := ⟨.hbm, 99, rfl⟩
abbrev main_call2_cst : Ref sig .tc := ⟨.hbm, 100, rfl⟩
abbrev main_call2_v1 : Ref sig .tc := ⟨.hbm, 101, rfl⟩
abbrev main_v44 : Ref sig .tc := ⟨.hbm, 102, rfl⟩
abbrev main_values : Ref sig .tc := ⟨.hbm, 103, rfl⟩
abbrev main_indices : Ref sig .tc := ⟨.hbm, 104, rfl⟩
abbrev main_v45 : Ref sig .tc := ⟨.hbm, 105, rfl⟩
abbrev main_v46 : Ref sig .tc := ⟨.hbm, 106, rfl⟩
abbrev main_call3_c : Ref sig .tc := ⟨.hbm, 107, rfl⟩
abbrev main_call3_v0 : Ref sig .tc := ⟨.hbm, 108, rfl⟩
abbrev main_call3_v1 : Ref sig .tc := ⟨.hbm, 109, rfl⟩
abbrev main_call3_c_0 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_call3_v5 : Ref sig .tc := ⟨.hbm, 114, rfl⟩
abbrev main_call3_c_1 : Ref sig .tc := ⟨.hbm, 115, rfl⟩
abbrev main_call3_c_2 : Ref sig .tc := ⟨.hbm, 116, rfl⟩
abbrev main_call3_v6 : Ref sig .tc := ⟨.hbm, 117, rfl⟩
abbrev main_call3_v7 : Ref sig .tc := ⟨.hbm, 118, rfl⟩
abbrev main_call3_v8 : Ref sig .tc := ⟨.hbm, 119, rfl⟩
abbrev main_call3_v9 : Ref sig .tc := ⟨.hbm, 120, rfl⟩
abbrev main_call3_v10 : Ref sig .tc := ⟨.hbm, 121, rfl⟩
abbrev main_call3_v11 : Ref sig .tc := ⟨.hbm, 122, rfl⟩
abbrev main_call3_c_3 : Ref sig .tc := ⟨.hbm, 123, rfl⟩
abbrev main_call3_v12 : Ref sig .tc := ⟨.hbm, 124, rfl⟩
abbrev main_call3_v13 : Ref sig .tc := ⟨.hbm, 125, rfl⟩
abbrev main_call3_cst : Ref sig .tc := ⟨.hbm, 126, rfl⟩
abbrev main_call3_v14 : Ref sig .tc := ⟨.hbm, 127, rfl⟩
abbrev main_v47 : Ref sig .tc := ⟨.hbm, 128, rfl⟩

abbrev nD : Nat := 1
abbrev τ : Topo := Topo.v7x

variable {F : FTy → Type} [FloatOps F]
-- ==== Proof.Claims.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

/-! # The frames, and what the naming of a constant claims -/

@[expose] public section

noncomputable section

namespace Cert.Proof

open Idealize.ShloMosaic Idealize.ShloMosaic.TcCoe Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "step" .f32 0x3C12F114#32 ((2 / 223 : ℝ) : EReal) rfl

end Cert.Proof

end
-- ==== Proof.KRun.lean ====
module

public import proofs.«01_k».proof.Proof.Gen.KernelIdeal.Frame

/-! # The run of the kernel program, with its results

The launch is the one of the frame; what is read at the end are the three result arrays as well. -/

@[expose] public section

set_option maxRecDepth 16384

noncomputable section

namespace Cert.KernelIdeal.Out

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

set_option backward.isDefEq.respectTransparency.types false in
/-- Every run ends with the results as the last boundary has them and the arguments as launched. -/
theorem run : θ_run defs (onTc (τ := τ) (main (F := F))) ⟨m, fun _ => 0, ρ⟩ (fun r => ∀ c : Dev nD,
      r.2.mem ((c.tc : Thread nD τ).loc main_v53) = W11 m ρ c (Proc.devRef .tc main_v53)
      ∧ r.2.mem ((c.tc : Thread nD τ).loc main_v41) = W11 m ρ c (Proc.devRef .tc main_v41)
      ∧ r.2.mem ((c.tc : Thread nD τ).loc main_v44) = W11 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ c =>
      ⟨h c _ (mem_uc main_v53 (by decide)), h c _ (mem_uc main_v41 (by decide)), h c _ (mem_uc main_v44 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩)

end Cert.KernelIdeal.Out

end
-- ==== Proof.Host.lean ====
module

public import proofs.«01_k».proof.Proof.Gen.KernelIdeal.Frame
public import proofs.«01_k».proof.Proof.Gen.ReferenceIdeal.Run
public import Idealize.ShloMosaic.Lib.StableHlo.RunRead

/-! # What the host lines of the kernel program compute -/

@[expose] public section

set_option maxRecDepth 16384
set_option maxHeartbeats 4000000

open Idealize.ShloMosaic Idealize.ShloMosaic.TcCoe Idealize.ShloMosaic.Tactic

namespace Cert.KernelIdeal.Line

open Cert.KernelIdeal Cert.KernelIdeal.Gen

variable {F : FTy → Type} [FloatOps F] [Named F]

/-- The fractions 0/223 … 222/223. -/
noncomputable def frac : FVec F S223 .f32 :=
  Host.divf (sitofp .f32 (iotaInDim S223 32 0)) (broadcastInDim S223 ![] bcast_S_S223 (constant S_ .f32 0x435F0000#32))

/-- The 224 evenly spaced numbers from −1 to 1. -/
noncomputable def lin : FVec F S224 .f32 :=
  concatenate S224 0
    [⟨S223, addf
      (mulf (broadcastInDim S223 ![0] bcast_S1_S223_0 (shapeCast S1 (constant S_ .f32 0xBF800000#32) shapeCasts_S_S1))
        (subf (broadcastInDim S223 ![] bcast_S_S223 (constant S_ .f32 0x3F800000#32)) frac))
      (mulf (broadcastInDim S223 ![0] bcast_S1_S223_0 (shapeCast S1 (constant S_ .f32 0x3F800000#32) shapeCasts_S_S1)) frac)⟩,
     ⟨S1, broadcastInDim S1 ![] bcast_S_S1 (constant S_ .f32 0x3F800000#32)⟩] concatenates_S223_S1_S224_d0

/-- The grid of all pairs of these numbers, row by row. -/
noncomputable def grid : FVec F S50176x2 .f32 :=
  shapeCast S50176x2 (concatenate S224x224x2 2
    [⟨S224x224x1, broadcastInDim S224x224x1 ![0, 1] bcast_S224x224_S224x224x1_0_1 (broadcastInDim S224x224 ![0] bcast_S224_S224x224_0 lin)⟩,
     ⟨S224x224x1, broadcastInDim S224x224x1 ![0, 1] bcast_S224x224_S224x224x1_0_1 (broadcastInDim S224x224 ![1] bcast_S224_S224x224_1 lin)⟩]
    concatenates_S224x224x1_S224x224x1_S224x224x2_d2) shapeCasts_S224x224x2_S50176x2

/-- The gradient's norm at each grid point, of the decoder's outputs, the features and the image. -/
noncomputable def normOf (out : FVec F S2x3x50176 .f32) (feat : FVec F S2x128x50176 .f32) (img : FVec F S2x3x224x224 .f32) :
    FVec F S2x50176 .f32 :=
  have err : FVec F S2x3x50176 .f32 := subf (shapeCast S2x3x50176 img shapeCasts_S2x3x224x224_S2x3x50176) out
  have g : FVec F S2x387x50176 .f32 := shapeCast S2x387x50176 (concatenate S2x3x129x50176 2
    [⟨S2x3x128x50176, mulf
        (broadcastInDim S2x3x128x50176 ![0, 1, 2, 3] bcast_S2x1x128x50176_S2x3x128x50176_0_1_2_3
          (mulf (broadcastInDim S2x1x128x50176 ![] bcast_S_S2x1x128x50176 (constant S_ .f32 0xBF800000#32))
            (broadcastInDim S2x1x128x50176 ![0, 2, 3] bcast_S2x128x50176_S2x1x128x50176_0_2_3 feat)))
        (broadcastInDim S2x3x128x50176 ![0, 1, 2, 3] bcast_S2x3x1x50176_S2x3x128x50176_0_1_2_3
          (broadcastInDim S2x3x1x50176 ![0, 1, 3] bcast_S2x3x50176_S2x3x1x50176_0_1_3 err))⟩,
     ⟨S2x3x1x50176, mulf (broadcastInDim S2x3x1x50176 ![] bcast_S_S2x3x1x50176 (constant S_ .f32 0xBF800000#32))
        (broadcastInDim S2x3x1x50176 ![0, 1, 3] bcast_S2x3x50176_S2x3x1x50176_0_1_3 err)⟩]
    concatenates_S2x3x128x50176_S2x3x1x50176_S2x3x129x50176_d2) shapeCasts_S2x3x129x50176_S2x387x50176
  Host.sqrt (Host.reduceAdd (mulf g g) (constant S_ .f32 0x00000000#32) reducesTo_S2x387x50176_S2x50176_d1 h_S_)

/-- The decoder's outputs of the features, once for each image. -/
noncomputable def outOf (feat : FVec F S50176x128 .f32) (wo : FVec F S128x3 .f32) (bo : FVec F S3 .f32) : FVec F S2x3x50176 .f32 :=
  broadcastInDim S2x3x50176 ![0, 1, 2] bcast_S1x3x50176_S2x3x50176_0_1_2
    (broadcastInDim S1x3x50176 ![1, 2] bcast_S3x50176_S1x3x50176_1_2
      (transpose S3x50176 [1, 0]
        (addf (Host.dotGeneral dot_S50176x128_S128x3_S50176x3_1_0_0_1_n_n none feat wo)
          (broadcastInDim S50176x3 ![0, 1] bcast_S1x3_S50176x3_0_1 (broadcastInDim S1x3 ![1] bcast_S3_S1x3_1 bo)))
        transposes_S50176x3_S3x50176_1_0))

/-- The transposed features, once for each image. -/
noncomputable def featOf (featT : FVec F S128x50176 .f32) : FVec F S2x128x50176 .f32 :=
  broadcastInDim S2x128x50176 ![0, 1, 2] bcast_S1x128x50176_S2x128x50176_0_1_2
    (broadcastInDim S1x128x50176 ![1, 2] bcast_S128x50176_S1x128x50176_1_2 featT)

/-- The norms, filled up with −1 and laid out in rows of 128. -/
noncomputable def padOf (x : FVec F S2x50176 .f32) : FVec F S2x512x128 .f32 :=
  shapeCast S2x512x128 (concatenate S2x65536 1
    [⟨S2x50176, x⟩, ⟨S2x15360, broadcastInDim S2x15360 ![] bcast_S_S2x15360 (constant S_ .f32 0xBF800000#32)⟩]
    concatenates_S2x50176_S2x15360_S2x65536_d1) shapeCasts_S2x65536_S2x512x128

/-- The kept numbers of a block, read column by column, cut to 12544. -/
noncomputable def cutOf {α : Type} (x : S2x512x32.Idx → α) : S2x12544.Idx → α :=
  extractStridedSlice S2x12544 ![0, 0]
    (shapeCast S2x16384 (transpose S2x32x512 [0, 2, 1] x transposes_S2x512x32_S2x32x512_0_2_1) shapeCasts_S2x32x512_S2x16384)
    slices_S2x16384_S2x12544_0_0

/-- Two lists of numbers side by side. -/
noncomputable def pairOf (x y : FVec F S2x12544 .f32) : FVec F S2x12544x2 .f32 :=
  concatenate S2x12544x2 2
    [⟨S2x12544x1, broadcastInDim S2x12544x1 ![0, 1] bcast_S2x12544_S2x12544x1_0_1 x⟩,
     ⟨S2x12544x1, broadcastInDim S2x12544x1 ![0, 1] bcast_S2x12544_S2x12544x1_0_1 y⟩] concatenates_S2x12544x1_S2x12544x1_S2x12544x2_d2

section
variable (m : (ℓ : Loc nD τ sig) → Buf (Elt F) ℓ) (ρ : Dev nD → PrngReg) (c : Dev nD)

theorem lin_0 : W2 m ρ c (Proc.devRef .tc main_v0) = lin := by
  unfold W2 hostOps0_1 W1 hostOps0
  generalize e0 : ((fun a b => concatenate S224 0 [⟨S223, a⟩, ⟨S1, b⟩] concatenates_S223_S1_S224_d0) : (⟨S223, .f32⟩ : BufTy).Contents (Elt F) → (⟨S1, .f32⟩ : BufTy).Contents (Elt F) → (⟨S224, .f32⟩ : BufTy).Contents (Elt F)) = f0
  simp only [StableHlo.TRef.binary, StableHlo.TRef.nullary, StableHlo.TRef.reshape, StableHlo.TRef.unary, StableHlo.TRef.toBuf, StableHlo.TRef.ofBuf, cast_eq]
  after_results_simp
  subst e0
  rfl

theorem lin_1 : W4 m ρ c (Proc.devRef .tc main_v1) = lin := by
  unfold W4 hostOps0_3 W3 hostOps0_2
  generalize e0 : ((fun a b => concatenate S224 0 [⟨S223, a⟩, ⟨S1, b⟩] concatenates_S223_S1_S224_d0) : (⟨S223, .f32⟩ : BufTy).Contents (Elt F) → (⟨S1, .f32⟩ : BufTy).Contents (Elt F) → (⟨S224, .f32⟩ : BufTy).Contents (Elt F)) = f0
  simp only [StableHlo.TRef.binary, StableHlo.TRef.nullary, StableHlo.TRef.reshape, StableHlo.TRef.unary, StableHlo.TRef.toBuf, StableHlo.TRef.ofBuf, cast_eq]
  after_results_simp
  subst e0
  rfl

theorem lin_0' : W4 m ρ c (Proc.devRef .tc main_v0) = lin :=
  (W4_of m ρ c main_v0 (by decide)).trans ((W3_of m ρ c main_v0 (by decide)).trans (lin_0 m ρ c))

theorem grid_7 : W5 m ρ c (Proc.devRef .tc main_v7) = grid := by
  have h0 := lin_0' m ρ c
  have h1 := lin_1 m ρ c
  unfold W5 hostOps0_4
  generalize W4 m ρ c = V at *
  generalize e0 : ((fun a b => concatenate S224x224x2 2 [⟨S224x224x1, a⟩, ⟨S224x224x1, b⟩] concatenates_S224x224x1_S224x224x1_S224x224x2_d2) : (⟨S224x224x1, .f32⟩ : BufTy).Contents (Elt F) → (⟨S224x224x1, .f32⟩ : BufTy).Contents (Elt F) → (⟨S224x224x2, .f32⟩ : BufTy).Contents (Elt F)) = f0
  after_results_simp
  rw [h0, h1]
  subst e0
  rfl

theorem bias_8 : W5 m ρ c (Proc.devRef .tc main_v8) =
    broadcastInDim S1x128 ![1] bcast_S128_S1x128_1 (m ((c : Thread nD τ).loc main_arg2)) := by
  have h := W4_args m ρ c main_arg2 (by decide)
  unfold W5 hostOps0_4
  generalize W4 m ρ c = V at *
  after_results_simp
  rw [h]

theorem bias_9 : W5 m ρ c (Proc.devRef .tc main_v9) =
    broadcastInDim S1x128 ![1] bcast_S128_S1x128_1 (m ((c : Thread nD τ).loc main_arg4)) := by
  have h := W4_args m ρ c main_arg4 (by decide)
  unfold W5 hostOps0_4
  generalize W4 m ρ c = V at *
  after_results_simp
  rw [h]

theorem pad_37 : W9 m ρ c (Proc.devRef .tc main_v37) =
    padOf (normOf (outOf (W6 m ρ c (Proc.devRef .tc main_v10_0)) (m ((c : Thread nD τ).loc main_arg5)) (m ((c : Thread nD τ).loc main_arg6)))
      (featOf (W6 m ρ c (Proc.devRef .tc main_v10_1))) (m ((c : Thread nD τ).loc main_arg0))) := by
  have h0 := W6_args m ρ c main_arg0 (by decide)
  have h5 := W6_args m ρ c main_arg5 (by decide)
  have h6 := W6_args m ρ c main_arg6 (by decide)
  unfold W9 hostOps1_2 W8 hostOps1_1 W7 hostOps1
  generalize e0 : ((fun a b => concatenate S2x3x129x50176 2 [⟨S2x3x128x50176, a⟩, ⟨S2x3x1x50176, b⟩] concatenates_S2x3x128x50176_S2x3x1x50176_S2x3x129x50176_d2) : (⟨S2x3x128x50176, .f32⟩ : BufTy).Contents (Elt F) → (⟨S2x3x1x50176, .f32⟩ : BufTy).Contents (Elt F) → (⟨S2x3x129x50176, .f32⟩ : BufTy).Contents (Elt F)) = f0
  generalize e1 : ((fun a b => concatenate S2x65536 1 [⟨S2x50176, a⟩, ⟨S2x15360, b⟩] concatenates_S2x50176_S2x15360_S2x65536_d1) : (⟨S2x50176, .f32⟩ : BufTy).Contents (Elt F) → (⟨S2x15360, .f32⟩ : BufTy).Contents (Elt F) → (⟨S2x65536, .f32⟩ : BufTy).Contents (Elt F)) = f1
  simp only [StableHlo.TRef.binary, StableHlo.TRef.nullary, StableHlo.TRef.reshape, StableHlo.TRef.unary, StableHlo.TRef.toBuf, StableHlo.TRef.ofBuf, cast_eq]
  after_results_simp
  rw [h0, h5, h6]
  subst e0
  subst e1
  rfl

theorem cut_41 : W11 m ρ c (Proc.devRef .tc main_v41) = cutOf (W10 m ρ c (Proc.devRef .tc main_v38_0)) := by
  unfold W11 hostOps2
  after_results_simp <;> rfl

theorem cut_44 : W11 m ρ c (Proc.devRef .tc main_v44) = cutOf (W10 m ρ c (Proc.devRef .tc main_v38_1)) := by
  unfold W11 hostOps2
  after_results_simp <;> rfl

theorem pair_53 : W11 m ρ c (Proc.devRef .tc main_v53) =
    pairOf (cutOf (W10 m ρ c (Proc.devRef .tc main_v38_2))) (cutOf (W10 m ρ c (Proc.devRef .tc main_v38_3))) := by
  unfold W11 hostOps2
  generalize e0 : ((fun a b => concatenate S2x12544x2 2 [⟨S2x12544x1, a⟩, ⟨S2x12544x1, b⟩] concatenates_S2x12544x1_S2x12544x1_S2x12544x2_d2) : (⟨S2x12544x1, .f32⟩ : BufTy).Contents (Elt F) → (⟨S2x12544x1, .f32⟩ : BufTy).Contents (Elt F) → (⟨S2x12544x2, .f32⟩ : BufTy).Contents (Elt F)) = f0
  after_results_simp
  subst e0
  rfl
end

end Cert.KernelIdeal.Line
-- ==== Proof.Feat.lean ====
module

public import proofs.«01_k».proof.Proof.Host
public import Idealize.ShloMosaic.Lib.Pipeline.ValueKit
public import Idealize.ShloMosaic.Lib.Pointwise

/-! # The decoder's features at one grid point -/

@[expose] public section

set_option maxRecDepth 16384

open Idealize.ShloMosaic Idealize.ShloMosaic.TcCoe Idealize.ShloMosaic.Tactic

namespace Cert.KernelIdeal.Line

open Cert.KernelIdeal Cert.KernelIdeal.Gen

/-- The features of one point: two layers of sines. -/
noncomputable def featRow (g : Fin 2 → EReal) (w1 : S2x128.Idx → EReal) (b1 : Fin 128 → EReal) (w2 : S128x128.Idx → EReal)
    (b2 : Fin 128 → EReal) (f : Fin 128) : EReal :=
  Ideal.sin (Ideal.ofBits FTy.f32 0x41F00000#32 *
    (∑ j : Fin 128, Ideal.sin (Ideal.ofBits FTy.f32 0x41F00000#32 * (∑ k : Fin 2, g k * w1 (ix2 k j) + b1 j)) * w2 (ix2 j f) + b2 f))

theorem pay_apply (g : Vec Ideal S6272x2 .f32) (w1 : Vec Ideal S2x128 .f32) (b1 : Vec Ideal S1x128 .f32)
    (w2 : Vec Ideal S128x128 .f32) (b2 : Vec Ideal S1x128 .f32) (r : Fin 6272) (f : Fin 128) :
    k0_pay1 (F := Ideal) g w1 b1 w2 b2 (ix2 r f) =
      featRow (fun k => g (ix2 r k)) w1 (fun j => b1 (ix2 0 j)) w2 (fun j => b2 (ix2 0 j)) f := by
  unfold k0_pay1 featRow
  pointwise

section
variable (V : (c : Dev nD) → (b : Ref sig .tc) → Buf (Elt Ideal) ((c : Thread nD τ).loc b)) (c : Dev nD)

/-- What the first region leaves, as a function of its five arrays. -/
noncomputable def featArr (y : Fin 50176) (f : Fin 128) : EReal :=
  featRow (fun k => V c main_v7 (ix2 y k)) (V c main_arg1) (fun j => V c main_v8 (ix2 0 j)) (V c main_arg3)
    (fun j => V c main_v9 (ix2 0 j)) f

theorem wat_0 : ∀ t : Fin cfg0.N, win0_0.index t 0 = t.val ∧ win0_0.index t 1 = 0 := by decide +kernel
theorem wat_1 : ∀ t : Fin cfg0.N, win0_1.index t 0 = 0 ∧ win0_1.index t 1 = 0 := by decide +kernel
theorem wat_2 : ∀ t : Fin cfg0.N, win0_2.index t 0 = 0 ∧ win0_2.index t 1 = 0 := by decide +kernel
theorem wat_3 : ∀ t : Fin cfg0.N, win0_3.index t 0 = 0 ∧ win0_3.index t 1 = 0 := by decide +kernel
theorem wat_4 : ∀ t : Fin cfg0.N, win0_4.index t 0 = 0 ∧ win0_4.index t 1 = 0 := by decide +kernel
theorem wat_5 : ∀ t : Fin cfg0.N, win0_5.index t 0 = t.val ∧ win0_5.index t 1 = 0 := by decide +kernel
theorem wat_6 : ∀ t : Fin cfg0.N, win0_6.index t 0 = 0 ∧ win0_6.index t 1 = t.val := by decide +kernel

theorem blk_1 (t : Fin cfg0.N) : iblk0 V c 1 t = V c main_arg1 := by
  funext y; unfold iblk0; blk_simp; blk_ext [wat_1 t]
theorem blk_2 (t : Fin cfg0.N) : iblk0 V c 2 t = V c main_v8 := by
  funext y; unfold iblk0; blk_simp; blk_ext [wat_2 t]
theorem blk_3 (t : Fin cfg0.N) : iblk0 V c 3 t = V c main_arg3 := by
  funext y; unfold iblk0; blk_simp; blk_ext [wat_3 t]
theorem blk_4 (t : Fin cfg0.N) : iblk0 V c 4 t = V c main_v9 := by
  funext y; unfold iblk0; blk_simp; blk_ext [wat_4 t]

theorem zeros2 : (![0, 0] : Fin 2 → ℕ) = fun _ => 0 := by
  funext i; fin_cases i <;> rfl

theorem ld_0 (x : Vec Ideal S6272x2 .f32) : View.ld x r0_0 = x := View.ld_unit_zero zeros2 _ x
theorem ld_1 (x : Vec Ideal S2x128 .f32) : View.ld x r0_1 = x := View.ld_unit_zero zeros2 _ x
theorem ld_2 (x : Vec Ideal S1x128 .f32) : View.ld x r0_2 = x := View.ld_unit_zero zeros2 _ x
theorem ld_3 (x : Vec Ideal S128x128 .f32) : View.ld x r0_3 = x := View.ld_unit_zero zeros2 _ x

/-- One row of a tile, as features of the grid row it stands for. -/
theorem tile_apply (t : Fin cfg0.N) (r : Fin 6272) (f : Fin 128) (y : Fin 50176) (hy : y.val = t.val * 6272 + r.val) :
    k0_pay1 (F := Ideal) (iblk0 V c 0 t) (iblk0 V c 1 t) (iblk0 V c 2 t) (iblk0 V c 3 t) (iblk0 V c 4 t) (ix2 r f) = featArr V c y f := by
  rw [blk_1, blk_2, blk_3, blk_4, pay_apply]
  unfold featArr
  congr 1
  funext k
  unfold iblk0
  blk_simp
  blk_ext [wat_0 t, hy]

theorem arr_5 : (dat0 V c).arrAt 5 cfg0.N = fun y => featArr V c (y 0) (y 1) := by
  refine (dat0 V c).arrAt_eq_of_covers 5 _ (by decide +kernel) fun t hf y => ?_
  blk_simp
  rw [after0_5]
  unfold out0_5
  refine (congrFun (View.canon_unit_zero zeros2 _ (Val := Elt Ideal) (S := S6272x128) (e := .f32) _) y).trans ?_
  rw [ld_0, ld_1, ld_2, ld_2, ld_3]
  have hr : (y 0).val < 6272 := (y 0).isLt
  have ht : t.val < 8 := t.isLt
  have he : (win0_5.blk t).view.emb y = ix2 (⟨t.val * 6272 + (y 0).val, by omega⟩ : Fin 50176) (y 1) := by
    blk_ext [wat_5 t]
  rw [he]
  have hy : y = ix2 (y 0) (y 1) := by funext a; fin_cases a <;> rfl
  refine (congrArg _ hy).trans ?_
  exact tile_apply V c t (y 0) (y 1) _ rfl

theorem arr_6 : (dat0 V c).arrAt 6 cfg0.N = fun y => featArr V c (y 1) (y 0) := by
  refine (dat0 V c).arrAt_eq_of_covers 6 _ (by decide +kernel) fun t hf y => ?_
  blk_simp
  rw [after0_6]
  unfold out0_6
  refine (congrFun (View.canon_unit_zero zeros2 _ (Val := Elt Ideal) (S := S128x6272) (e := .f32) _) y).trans ?_
  rw [ld_0, ld_1, ld_2, ld_2, ld_3]
  have hr : (y 1).val < 6272 := (y 1).isLt
  have ht : t.val < 8 := t.isLt
  have he : (win0_6.blk t).view.emb y = ix2 (y 0) (⟨t.val * 6272 + (y 1).val, by omega⟩ : Fin 50176) := by
    blk_ext [wat_6 t]
  rw [he]
  have hy : y = ix2 (y 0) (y 1) := by funext a; fin_cases a <;> rfl
  refine (congrArg _ hy).trans ?_
  refine Eq.trans ?_ (tile_apply V c t (y 1) (y 0) _ rfl)
  unfold k0_pay2
  exact transpose_apply [1, 0] _ _ _ (ix2 (y 1) (y 0)) (fun a => by fin_cases a <;> rfl)
end

end Cert.KernelIdeal.Line
-- ==== Proof.Match.lean ====
module

public import proofs.«01_k».proof.Proof.Feat

/-! # The two programs' norms are the same -/

@[expose] public section

set_option maxRecDepth 16384

open Idealize.ShloMosaic Idealize.ShloMosaic.TcCoe Idealize.ShloMosaic.Tactic

namespace Cert.KernelIdeal.Line

open Cert.KernelIdeal Cert.KernelIdeal.Gen

section
variable (V : Valuation Cert.ReferenceIdeal.τ Cert.ReferenceIdeal.sig (Elt Ideal))

/-- The reference's features at one point. -/
noncomputable def refRow (y : Fin 50176) (f : Fin 128) : EReal :=
  featRow (fun k => grid (F := Ideal) (ix2 y k)) (V (Proc.devRef .tc Cert.ReferenceIdeal.main_arg1))
    (fun j => V (Proc.devRef .tc Cert.ReferenceIdeal.main_arg2) (ix1 j)) (V (Proc.devRef .tc Cert.ReferenceIdeal.main_arg3))
    (fun j => V (Proc.devRef .tc Cert.ReferenceIdeal.main_arg4) (ix1 j)) f

theorem coords_eq : Cert.ReferenceIdeal.Value.res_main_v9 (F := Ideal) V =
    broadcastInDim Cert.ReferenceIdeal.S2x50176x2 ![0, 1, 2] Cert.ReferenceIdeal.Gen.bcast_S1x50176x2_S2x50176x2_0_1_2
      (broadcastInDim Cert.ReferenceIdeal.S1x50176x2 ![1, 2] Cert.ReferenceIdeal.Gen.bcast_S50176x2_S1x50176x2_1_2 (grid (F := Ideal))) := rfl

theorem coords_apply (b : Fin 2) (y : Fin 50176) (k : Fin 2) :
    Cert.ReferenceIdeal.Value.res_main_v9 (F := Ideal) V (ix3 b y k) = grid (F := Ideal) (ix2 y k) := by
  rw [coords_eq]
  pointwise

theorem feat_apply (b : Fin 2) (y : Fin 50176) (f : Fin 128) :
    Cert.ReferenceIdeal.Value.res_main_v23 (F := Ideal) V (ix3 b y f) = refRow V y f := by
  unfold Cert.ReferenceIdeal.Value.res_main_v23 refRow featRow
  pointwise
  simp only [coords_apply]

/-- The reference's outputs, transposed. -/
noncomputable def refOut : FVec Ideal S2x3x50176 .f32 :=
  transpose S2x3x50176 [0, 2, 1]
    (addf (Host.dotGeneral (φ₁ := .f32) (φ₂ := .f32) Cert.ReferenceIdeal.dot_S2x50176x128_S128x3_S2x50176x3_2_0_01_1_n_n none
        (Cert.ReferenceIdeal.Value.res_main_v23 (F := Ideal) V) (V (Proc.devRef .tc Cert.ReferenceIdeal.main_arg5)))
      (broadcastInDim Cert.ReferenceIdeal.S2x50176x3 ![0, 1, 2] Cert.ReferenceIdeal.Gen.bcast_S1x1x3_S2x50176x3_0_1_2
        (broadcastInDim Cert.ReferenceIdeal.S1x1x3 ![2] Cert.ReferenceIdeal.Gen.bcast_S3_S1x1x3_2 (V (Proc.devRef .tc Cert.ReferenceIdeal.main_arg6)))))
    Cert.ReferenceIdeal.Gen.transposes_S2x50176x3_S2x3x50176_0_2_1

/-- The reference's features, transposed. -/
noncomputable def refFeat : FVec Ideal S2x128x50176 .f32 :=
  transpose S2x128x50176 [0, 2, 1] (Cert.ReferenceIdeal.Value.res_main_v23 (F := Ideal) V)
    Cert.ReferenceIdeal.Gen.transposes_S2x50176x128_S2x128x50176_0_2_1

theorem norm_ref : Cert.ReferenceIdeal.Value.res_main_v44 (F := Ideal) V =
    normOf (F := Ideal) (refOut V) (refFeat V) (V (Proc.devRef .tc Cert.ReferenceIdeal.main_arg0)) := rfl

theorem refFeat_apply (b : Fin 2) (f : Fin 128) (y : Fin 50176) : refFeat V (ix3 b f y) = refRow V y f := by
  unfold refFeat
  refine Eq.trans ?_ (feat_apply V b y f)
  exact transpose_apply [0, 2, 1] _ _ _ (ix3 b y f) (fun a => by fin_cases a <;> rfl)

theorem refOut_apply (b : Fin 2) (o : Fin 3) (y : Fin 50176) : refOut V (ix3 b o y) =
    ∑ f : Fin 128, refRow V y f * V (Proc.devRef .tc Cert.ReferenceIdeal.main_arg5) (ix2 f o)
      + V (Proc.devRef .tc Cert.ReferenceIdeal.main_arg6) (ix1 o) := by
  unfold refOut
  pointwise
  simp only [feat_apply]

theorem featOf_apply (x : FVec Ideal S128x50176 .f32) (b : Fin 2) (f : Fin 128) (y : Fin 50176) :
    featOf (F := Ideal) x (ix3 b f y) = x (ix2 f y) := by
  unfold featOf
  pointwise

theorem outOf_apply (x : FVec Ideal S50176x128 .f32) (wo : FVec Ideal S128x3 .f32) (bo : FVec Ideal S3 .f32)
    (b : Fin 2) (o : Fin 3) (y : Fin 50176) :
    outOf (F := Ideal) x wo bo (ix3 b o y) = ∑ f : Fin 128, x (ix2 y f) * wo (ix2 f o) + bo (ix1 o) := by
  unfold outOf
  pointwise

variable (m : (ℓ : Loc nD τ sig) → Buf (Elt Ideal) ℓ) (ρ : Dev nD → PrngReg) (c : Dev nD)
  (h0 : m ((c : Thread nD τ).loc main_arg0) = V (Proc.devRef .tc Cert.ReferenceIdeal.main_arg0))
  (h1 : m ((c : Thread nD τ).loc main_arg1) = V (Proc.devRef .tc Cert.ReferenceIdeal.main_arg1))
  (h2 : m ((c : Thread nD τ).loc main_arg2) = V (Proc.devRef .tc Cert.ReferenceIdeal.main_arg2))
  (h3 : m ((c : Thread nD τ).loc main_arg3) = V (Proc.devRef .tc Cert.ReferenceIdeal.main_arg3))
  (h4 : m ((c : Thread nD τ).loc main_arg4) = V (Proc.devRef .tc Cert.ReferenceIdeal.main_arg4))
  (h5 : m ((c : Thread nD τ).loc main_arg5) = V (Proc.devRef .tc Cert.ReferenceIdeal.main_arg5))
  (h6 : m ((c : Thread nD τ).loc main_arg6) = V (Proc.devRef .tc Cert.ReferenceIdeal.main_arg6))

include h1 h2 h3 h4 in
theorem featArr_eq (y : Fin 50176) (f : Fin 128) : featArr (V5 m ρ) c y f = refRow V y f := by
  unfold featArr refRow
  have e1 : V5 m ρ c main_arg1 = V (Proc.devRef .tc Cert.ReferenceIdeal.main_arg1) :=
    (W5_args m ρ c main_arg1 (by decide)).trans h1
  have e3 : V5 m ρ c main_arg3 = V (Proc.devRef .tc Cert.ReferenceIdeal.main_arg3) :=
    (W5_args m ρ c main_arg3 (by decide)).trans h3
  have e7 : V5 m ρ c main_v7 = grid (F := Ideal) := grid_7 m ρ c
  have e8 : ∀ j : Fin 128, V5 m ρ c main_v8 (ix2 0 j) = V (Proc.devRef .tc Cert.ReferenceIdeal.main_arg2) (ix1 j) := fun j => by
    rw [show V5 m ρ c main_v8 = _ from bias_8 m ρ c, h2]; pointwise
  have e9 : ∀ j : Fin 128, V5 m ρ c main_v9 (ix2 0 j) = V (Proc.devRef .tc Cert.ReferenceIdeal.main_arg4) (ix1 j) := fun j => by
    rw [show V5 m ρ c main_v9 = _ from bias_9 m ρ c, h4]; pointwise
  rw [e1, e3, e7, funext e8, funext e9]

include h0 h1 h2 h3 h4 h5 h6 in
/-- What the sorting region is given: the reference's norms, filled up and laid out in rows. -/
theorem pad_eq : W9 m ρ c (Proc.devRef .tc main_v37) = padOf (F := Ideal) (Cert.ReferenceIdeal.Value.res_main_v44 (F := Ideal) V) := by
  rw [pad_37, norm_ref, h0, h5, h6]
  have a5 : W6 m ρ c (Proc.devRef .tc main_v10_0) = fun y => refRow V (y 0) (y 1) :=
    ((W6_arr m ρ c 5).trans (arr_5 (V5 m ρ) c)).trans (funext fun y => featArr_eq V m ρ c h1 h2 h3 h4 _ _)
  have a6 : W6 m ρ c (Proc.devRef .tc main_v10_1) = fun y => refRow V (y 1) (y 0) :=
    ((W6_arr m ρ c 6).trans (arr_6 (V5 m ρ) c)).trans (funext fun y => featArr_eq V m ρ c h1 h2 h3 h4 _ _)
  have ef : featOf (F := Ideal) (W6 m ρ c (Proc.devRef .tc main_v10_1)) = refFeat V := by
    funext y
    obtain ⟨b, f, q, rfl⟩ : ∃ b f q, y = ix3 b f q := ⟨y 0, y 1, y 2, by funext a; fin_cases a <;> rfl⟩
    rw [featOf_apply, refFeat_apply, a6]
    rfl
  have eo : outOf (F := Ideal) (W6 m ρ c (Proc.devRef .tc main_v10_0)) (V (Proc.devRef .tc Cert.ReferenceIdeal.main_arg5))
      (V (Proc.devRef .tc Cert.ReferenceIdeal.main_arg6)) = refOut V := by
    funext y
    obtain ⟨b, o, q, rfl⟩ : ∃ b o q, y = ix3 b o q := ⟨y 0, y 1, y 2, by funext a; fin_cases a <;> rfl⟩
    rw [outOf_apply, refOut_apply, a5]
    rfl
  rw [ef, eo]

end

end Cert.KernelIdeal.Line
-- ==== Proof.Stage.lean ====
module

public import proofs.«01_k».proof.Proof.Gen.KernelIdeal.Frame

/-! # The sorting body as a chain of 136 stages

One stage compares every entry with the entry whose position differs in one bit, and keeps the
greater or the lesser of the two. -/

@[expose] public section

open Idealize.ShloMosaic

namespace Cert.KernelIdeal.Sort

open Cert.KernelIdeal Cert.KernelIdeal.Gen

variable {F : FTy → Type} [FloatOps F] [Named F]

/-- The position of an entry: `lane * 512 + row`. -/
noncomputable abbrev pos : IVec S2x512x128 32 := kernelRun1_A.sl.v6

/-- Where bit `j` of the position is set. -/
noncomputable def bit (j : BitVec 32) : IVec S2x512x128 1 :=
  cmpi .ne (andi pos (broadcast S2x512x128 j)) (broadcast S2x512x128 0#32)

/-- Where bit `k` of the position is clear. -/
noncomputable def clr (k : BitVec 32) : IVec S2x512x128 1 :=
  cmpi .eq (andi pos (broadcast S2x512x128 k)) (broadcast S2x512x128 0#32)

/-- Where the entry itself comes before its partner: greater value, or the same value and the
smaller index. -/
noncomputable def better (v pv : FVec F S2x512x128 .f32) (ix pix : IVec S2x512x128 32) : IVec S2x512x128 1 :=
  ori (cmpf .ogt v pv) (andi (cmpf .oeq v pv) (cmpi .slt ix pix))

/-- Where the entry stays. -/
noncomputable def keep (lt m : IVec S2x512x128 1) : IVec S2x512x128 1 :=
  xori (xori lt m) (constantI S2x512x128 1 1#1)

/-- The values and the indices being sorted. -/
abbrev St (F : FTy → Type) := FVec F S2x512x128 .f32 × IVec S2x512x128 32

/-- One stage, given the partners' values and indices. -/
noncomputable def step (j k : BitVec 32) (p q : St F) : St F :=
  (select (keep (better p.1 q.1 p.2 q.2) (xori (clr k) (bit j))) p.1 q.1,
   select (keep (better p.1 q.1 p.2 q.2) (xori (clr k) (bit j))) p.2 q.2)

/-- The array moved forward by 1 positions, around the end. -/
noncomputable def up0 {α : Type} (v : S2x512x128.Idx → α) : S2x512x128.Idx → α :=
  concatenate S2x512x128 1 [⟨S2x1x128, extractStridedSlice S2x1x128 ![0, 511, 0] v slices_S2x512x128_o0_511_0_S2x1x128⟩, ⟨S2x511x128, extractStridedSlice S2x511x128 ![0, 0, 0] v slices_S2x512x128_o0_0_0_S2x511x128⟩] concatenates_S2x1x128_S2x511x128_S2x512x128_d1

/-- The array moved back by 1 positions, around the end. -/
noncomputable def dn0 {α : Type} (v : S2x512x128.Idx → α) : S2x512x128.Idx → α :=
  concatenate S2x512x128 1 [⟨S2x511x128, extractStridedSlice S2x511x128 ![0, 1, 0] v slices_S2x512x128_o0_1_0_S2x511x128⟩, ⟨S2x1x128, extractStridedSlice S2x1x128 ![0, 0, 0] v slices_S2x512x128_o0_0_0_S2x1x128⟩] concatenates_S2x511x128_S2x1x128_S2x512x128_d1

/-- Every entry's partner at distance 1. -/
noncomputable def nb0 {α : Type} (v : S2x512x128.Idx → α) : S2x512x128.Idx → α :=
  select (bit 1#32) (up0 v) (dn0 v)

/-- The stage at distance 1. -/
noncomputable def stg0 (k : BitVec 32) (p : St F) : St F := step 1#32 k p (nb0 p.1, nb0 p.2)

/-- The array moved forward by 2 positions, around the end. -/
noncomputable def up1 {α : Type} (v : S2x512x128.Idx → α) : S2x512x128.Idx → α :=
  concatenate S2x512x128 1 [⟨S2x2x128, extractStridedSlice S2x2x128 ![0, 510, 0] v slices_S2x512x128_o0_510_0_S2x2x128⟩, ⟨S2x510x128, extractStridedSlice S2x510x128 ![0, 0, 0] v slices_S2x512x128_o0_0_0_S2x510x128⟩] concatenates_S2x2x128_S2x510x128_S2x512x128_d1

/-- The array moved back by 2 positions, around the end. -/
noncomputable def dn1 {α : Type} (v : S2x512x128.Idx → α) : S2x512x128.Idx → α :=
  concatenate S2x512x128 1 [⟨S2x510x128, extractStridedSlice S2x510x128 ![0, 2, 0] v slices_S2x512x128_o0_2_0_S2x510x128⟩, ⟨S2x2x128, extractStridedSlice S2x2x128 ![0, 0, 0] v slices_S2x512x128_o0_0_0_S2x2x128⟩] concatenates_S2x510x128_S2x2x128_S2x512x128_d1

/-- Every entry's partner at distance 2. -/
noncomputable def nb1 {α : Type} (v : S2x512x128.Idx → α) : S2x512x128.Idx → α :=
  select (bit 2#32) (up1 v) (dn1 v)

/-- The stage at distance 2. -/
noncomputable def stg1 (k : BitVec 32) (p : St F) : St F := step 2#32 k p (nb1 p.1, nb1 p.2)

/-- The array moved forward by 4 positions, around the end. -/
noncomputable def up2 {α : Type} (v : S2x512x128.Idx → α) : S2x512x128.Idx → α :=
  concatenate S2x512x128 1 [⟨S2x4x128, extractStridedSlice S2x4x128 ![0, 508, 0] v slices_S2x512x128_o0_508_0_S2x4x128⟩, ⟨S2x508x128, extractStridedSlice S2x508x128 ![0, 0, 0] v slices_S2x512x128_o0_0_0_S2x508x128⟩] concatenates_S2x4x128_S2x508x128_S2x512x128_d1

/-- The array moved back by 4 positions, around the end. -/
noncomputable def dn2 {α : Type} (v : S2x512x128.Idx → α) : S2x512x128.Idx → α :=
  concatenate S2x512x128 1 [⟨S2x508x128, extractStridedSlice S2x508x128 ![0, 4, 0] v slices_S2x512x128_o0_4_0_S2x508x128⟩, ⟨S2x4x128, extractStridedSlice S2x4x128 ![0, 0, 0] v slices_S2x512x128_o0_0_0_S2x4x128⟩] concatenates_S2x508x128_S2x4x128_S2x512x128_d1

/-- Every entry's partner at distance 4. -/
noncomputable def nb2 {α : Type} (v : S2x512x128.Idx → α) : S2x512x128.Idx → α :=
  select (bit 4#32) (up2 v) (dn2 v)

/-- The stage at distance 4. -/
noncomputable def stg2 (k : BitVec 32) (p : St F) : St F := step 4#32 k p (nb2 p.1, nb2 p.2)

/-- The array moved forward by 8 positions, around the end. -/
noncomputable def up3 {α : Type} (v : S2x512x128.Idx → α) : S2x512x128.Idx → α :=
  concatenate S2x512x128 1 [⟨S2x8x128, extractStridedSlice S2x8x128 ![0, 504, 0] v slices_S2x512x128_o0_504_0_S2x8x128⟩, ⟨S2x504x128, extractStridedSlice S2x504x128 ![0, 0, 0] v slices_S2x512x128_o0_0_0_S2x504x128⟩] concatenates_S2x8x128_S2x504x128_S2x512x128_d1

/-- The array moved back by 8 positions, around the end. -/
noncomputable def dn3 {α : Type} (v : S2x512x128.Idx → α) : S2x512x128.Idx → α :=
  concatenate S2x512x128 1 [⟨S2x504x128, extractStridedSlice S2x504x128 ![0, 8, 0] v slices_S2x512x128_o0_8_0_S2x504x128⟩, ⟨S2x8x128, extractStridedSlice S2x8x128 ![0, 0, 0] v slices_S2x512x128_o0_0_0_S2x8x128⟩] concatenates_S2x504x128_S2x8x128_S2x512x128_d1

/-- Every entry's partner at distance 8. -/
noncomputable def nb3 {α : Type} (v : S2x512x128.Idx → α) : S2x512x128.Idx → α :=
  select (bit 8#32) (up3 v) (dn3 v)

/-- The stage at distance 8. -/
noncomputable def stg3 (k : BitVec 32) (p : St F) : St F := step 8#32 k p (nb3 p.1, nb3 p.2)

/-- The array moved forward by 16 positions, around the end. -/
noncomputable def up4 {α : Type} (v : S2x512x128.Idx → α) : S2x512x128.Idx → α :=
  concatenate S2x512x128 1 [⟨S2x16x128, extractStridedSlice S2x16x128 ![0, 496, 0] v slices_S2x512x128_o0_496_0_S2x16x128⟩, ⟨S2x496x128, extractStridedSlice S2x496x128 ![0, 0, 0] v slices_S2x512x128_o0_0_0_S2x496x128⟩] concatenates_S2x16x128_S2x496x128_S2x512x128_d1

/-- The array moved back by 16 positions, around the end. -/
noncomputable def dn4 {α : Type} (v : S2x512x128.Idx → α) : S2x512x128.Idx → α :=
  concatenate S2x512x128 1 [⟨S2x496x128, extractStridedSlice S2x496x128 ![0, 16, 0] v slices_S2x512x128_o0_16_0_S2x496x128⟩, ⟨S2x16x128, extractStridedSlice S2x16x128 ![0, 0, 0] v slices_S2x512x128_o0_0_0_S2x16x128⟩] concatenates_S2x496x128_S2x16x128_S2x512x128_d1

/-- Every entry's partner at distance 16. -/
noncomputable def nb4 {α : Type} (v : S2x512x128.Idx → α) : S2x512x128.Idx → α :=
  select (bit 16#32) (up4 v) (dn4 v)

/-- The stage at distance 16. -/
noncomputable def stg4 (k : BitVec 32) (p : St F) : St F := step 16#32 k p (nb4 p.1, nb4 p.2)

/-- The array moved forward by 32 positions, around the end. -/
noncomputable def up5 {α : Type} (v : S2x512x128.Idx → α) : S2x512x128.Idx → α :=
  concatenate S2x512x128 1 [⟨S2x32x128, extractStridedSlice S2x32x128 ![0, 480, 0] v slices_S2x512x128_o0_480_0_S2x32x128⟩, ⟨S2x480x128, extractStridedSlice S2x480x128 ![0, 0, 0] v slices_S2x512x128_o0_0_0_S2x480x128⟩] concatenates_S2x32x128_S2x480x128_S2x512x128_d1

/-- The array moved back by 32 positions, around the end. -/
noncomputable def dn5 {α : Type} (v : S2x512x128.Idx → α) : S2x512x128.Idx → α :=
  concatenate S2x512x128 1 [⟨S2x480x128, extractStridedSlice S2x480x128 ![0, 32, 0] v slices_S2x512x128_o0_32_0_S2x480x128⟩, ⟨S2x32x128, extractStridedSlice S2x32x128 ![0, 0, 0] v slices_S2x512x128_o0_0_0_S2x32x128⟩] concatenates_S2x480x128_S2x32x128_S2x512x128_d1

/-- Every entry's partner at distance 32. -/
noncomputable def nb5 {α : Type} (v : S2x512x128.Idx → α) : S2x512x128.Idx → α :=
  select (bit 32#32) (up5 v) (dn5 v)

/-- The stage at distance 32. -/
noncomputable def stg5 (k : BitVec 32) (p : St F) : St F := step 32#32 k p (nb5 p.1, nb5 p.2)

/-- The array moved forward by 64 positions, around the end. -/
noncomputable def up6 {α : Type} (v : S2x512x128.Idx → α) : S2x512x128.Idx → α :=
  concatenate S2x512x128 1 [⟨S2x64x128, extractStridedSlice S2x64x128 ![0, 448, 0] v slices_S2x512x128_o0_448_0_S2x64x128⟩, ⟨S2x448x128, extractStridedSlice S2x448x128 ![0, 0, 0] v slices_S2x512x128_o0_0_0_S2x448x128⟩] concatenates_S2x64x128_S2x448x128_S2x512x128_d1

/-- The array moved back by 64 positions, around the end. -/
noncomputable def dn6 {α : Type} (v : S2x512x128.Idx → α) : S2x512x128.Idx → α :=
  concatenate S2x512x128 1 [⟨S2x448x128, extractStridedSlice S2x448x128 ![0, 64, 0] v slices_S2x512x128_o0_64_0_S2x448x128⟩, ⟨S2x64x128, extractStridedSlice S2x64x128 ![0, 0, 0] v slices_S2x512x128_o0_0_0_S2x64x128⟩] concatenates_S2x448x128_S2x64x128_S2x512x128_d1

/-- Every entry's partner at distance 64. -/
noncomputable def nb6 {α : Type} (v : S2x512x128.Idx → α) : S2x512x128.Idx → α :=
  select (bit 64#32) (up6 v) (dn6 v)

/-- The stage at distance 64. -/
noncomputable def stg6 (k : BitVec 32) (p : St F) : St F := step 64#32 k p (nb6 p.1, nb6 p.2)

/-- The array moved forward by 128 positions, around the end. -/
noncomputable def up7 {α : Type} (v : S2x512x128.Idx → α) : S2x512x128.Idx → α :=
  concatenate S2x512x128 1 [⟨S2x128x128, extractStridedSlice S2x128x128 ![0, 384, 0] v slices_S2x512x128_o0_384_0_S2x128x128⟩, ⟨S2x384x128, extractStridedSlice S2x384x128 ![0, 0, 0] v slices_S2x512x128_o0_0_0_S2x384x128⟩] concatenates_S2x128x128_S2x384x128_S2x512x128_d1

/-- The array moved back by 128 positions, around the end. -/
noncomputable def dn7 {α : Type} (v : S2x512x128.Idx → α) : S2x512x128.Idx → α :=
  concatenate S2x512x128 1 [⟨S2x384x128, extractStridedSlice S2x384x128 ![0, 128, 0] v slices_S2x512x128_o0_128_0_S2x384x128⟩, ⟨S2x128x128, extractStridedSlice S2x128x128 ![0, 0, 0] v slices_S2x512x128_o0_0_0_S2x128x128⟩] concatenates_S2x384x128_S2x128x128_S2x512x128_d1

/-- Every entry's partner at distance 128. -/
noncomputable def nb7 {α : Type} (v : S2x512x128.Idx → α) : S2x512x128.Idx → α :=
  select (bit 128#32) (up7 v) (dn7 v)

/-- The stage at distance 128. -/
noncomputable def stg7 (k : BitVec 32) (p : St F) : St F := step 128#32 k p (nb7 p.1, nb7 p.2)

/-- The array moved forward by 256 positions, around the end. -/
noncomputable def up8 {α : Type} (v : S2x512x128.Idx → α) : S2x512x128.Idx → α :=
  concatenate S2x512x128 1 [⟨S2x256x128, extractStridedSlice S2x256x128 ![0, 256, 0] v slices_S2x512x128_o0_256_0_S2x256x128⟩, ⟨S2x256x128, extractStridedSlice S2x256x128 ![0, 0, 0] v slices_S2x512x128_o0_0_0_S2x256x128⟩] concatenates_S2x256x128_S2x256x128_S2x512x128_d1

/-- The array moved back by 256 positions, around the end. -/
noncomputable def dn8 {α : Type} (v : S2x512x128.Idx → α) : S2x512x128.Idx → α :=
  concatenate S2x512x128 1 [⟨S2x256x128, extractStridedSlice S2x256x128 ![0, 256, 0] v slices_S2x512x128_o0_256_0_S2x256x128⟩, ⟨S2x256x128, extractStridedSlice S2x256x128 ![0, 0, 0] v slices_S2x512x128_o0_0_0_S2x256x128⟩] concatenates_S2x256x128_S2x256x128_S2x512x128_d1

/-- Every entry's partner at distance 256. -/
noncomputable def nb8 {α : Type} (v : S2x512x128.Idx → α) : S2x512x128.Idx → α :=
  select (bit 256#32) (up8 v) (dn8 v)

/-- The stage at distance 256. -/
noncomputable def stg8 (k : BitVec 32) (p : St F) : St F := step 256#32 k p (nb8 p.1, nb8 p.2)

/-- The array moved forward by 512 positions, around the end. -/
noncomputable def up9 {α : Type} (v : S2x512x128.Idx → α) : S2x512x128.Idx → α :=
  concatenate S2x512x128 2 [⟨S2x512x1, extractStridedSlice S2x512x1 ![0, 0, 127] v slices_S2x512x128_o0_0_127_S2x512x1⟩, ⟨S2x512x127, extractStridedSlice S2x512x127 ![0, 0, 0] v slices_S2x512x128_o0_0_0_S2x512x127⟩] concatenates_S2x512x1_S2x512x127_S2x512x128_d2

/-- The array moved back by 512 positions, around the end. -/
noncomputable def dn9 {α : Type} (v : S2x512x128.Idx → α) : S2x512x128.Idx → α :=
  concatenate S2x512x128 2 [⟨S2x512x127, extractStridedSlice S2x512x127 ![0, 0, 1] v slices_S2x512x128_o0_0_1_S2x512x127⟩, ⟨S2x512x1, extractStridedSlice S2x512x1 ![0, 0, 0] v slices_S2x512x128_o0_0_0_S2x512x1⟩] concatenates_S2x512x127_S2x512x1_S2x512x128_d2

/-- Every entry's partner at distance 512. -/
noncomputable def nb9 {α : Type} (v : S2x512x128.Idx → α) : S2x512x128.Idx → α :=
  select (bit 512#32) (up9 v) (dn9 v)

/-- The stage at distance 512. -/
noncomputable def stg9 (k : BitVec 32) (p : St F) : St F := step 512#32 k p (nb9 p.1, nb9 p.2)

/-- The array moved forward by 1024 positions, around the end. -/
noncomputable def up10 {α : Type} (v : S2x512x128.Idx → α) : S2x512x128.Idx → α :=
  concatenate S2x512x128 2 [⟨S2x512x2, extractStridedSlice S2x512x2 ![0, 0, 126] v slices_S2x512x128_o0_0_126_S2x512x2⟩, ⟨S2x512x126, extractStridedSlice S2x512x126 ![0, 0, 0] v slices_S2x512x128_o0_0_0_S2x512x126⟩] concatenates_S2x512x2_S2x512x126_S2x512x128_d2

/-- The array moved back by 1024 positions, around the end. -/
noncomputable def dn10 {α : Type} (v : S2x512x128.Idx → α) : S2x512x128.Idx → α :=
  concatenate S2x512x128 2 [⟨S2x512x126, extractStridedSlice S2x512x126 ![0, 0, 2] v slices_S2x512x128_o0_0_2_S2x512x126⟩, ⟨S2x512x2, extractStridedSlice S2x512x2 ![0, 0, 0] v slices_S2x512x128_o0_0_0_S2x512x2⟩] concatenates_S2x512x126_S2x512x2_S2x512x128_d2

/-- Every entry's partner at distance 1024. -/
noncomputable def nb10 {α : Type} (v : S2x512x128.Idx → α) : S2x512x128.Idx → α :=
  select (bit 1024#32) (up10 v) (dn10 v)

/-- The stage at distance 1024. -/
noncomputable def stg10 (k : BitVec 32) (p : St F) : St F := step 1024#32 k p (nb10 p.1, nb10 p.2)

/-- The array moved forward by 2048 positions, around the end. -/
noncomputable def up11 {α : Type} (v : S2x512x128.Idx → α) : S2x512x128.Idx → α :=
  concatenate S2x512x128 2 [⟨S2x512x4, extractStridedSlice S2x512x4 ![0, 0, 124] v slices_S2x512x128_o0_0_124_S2x512x4⟩, ⟨S2x512x124, extractStridedSlice S2x512x124 ![0, 0, 0] v slices_S2x512x128_o0_0_0_S2x512x124⟩] concatenates_S2x512x4_S2x512x124_S2x512x128_d2

/-- The array moved back by 2048 positions, around the end. -/
noncomputable def dn11 {α : Type} (v : S2x512x128.Idx → α) : S2x512x128.Idx → α :=
  concatenate S2x512x128 2 [⟨S2x512x124, extractStridedSlice S2x512x124 ![0, 0, 4] v slices_S2x512x128_o0_0_4_S2x512x124⟩, ⟨S2x512x4, extractStridedSlice S2x512x4 ![0, 0, 0] v slices_S2x512x128_o0_0_0_S2x512x4⟩] concatenates_S2x512x124_S2x512x4_S2x512x128_d2

/-- Every entry's partner at distance 2048. -/
noncomputable def nb11 {α : Type} (v : S2x512x128.Idx → α) : S2x512x128.Idx → α :=
  select (bit 2048#32) (up11 v) (dn11 v)

/-- The stage at distance 2048. -/
noncomputable def stg11 (k : BitVec 32) (p : St F) : St F := step 2048#32 k p (nb11 p.1, nb11 p.2)

/-- The array moved forward by 4096 positions, around the end. -/
noncomputable def up12 {α : Type} (v : S2x512x128.Idx → α) : S2x512x128.Idx → α :=
  concatenate S2x512x128 2 [⟨S2x512x8, extractStridedSlice S2x512x8 ![0, 0, 120] v slices_S2x512x128_o0_0_120_S2x512x8⟩, ⟨S2x512x120, extractStridedSlice S2x512x120 ![0, 0, 0] v slices_S2x512x128_o0_0_0_S2x512x120⟩] concatenates_S2x512x8_S2x512x120_S2x512x128_d2

/-- The array moved back by 4096 positions, around the end. -/
noncomputable def dn12 {α : Type} (v : S2x512x128.Idx → α) : S2x512x128.Idx → α :=
  concatenate S2x512x128 2 [⟨S2x512x120, extractStridedSlice S2x512x120 ![0, 0, 8] v slices_S2x512x128_o0_0_8_S2x512x120⟩, ⟨S2x512x8, extractStridedSlice S2x512x8 ![0, 0, 0] v slices_S2x512x128_o0_0_0_S2x512x8⟩] concatenates_S2x512x120_S2x512x8_S2x512x128_d2

/-- Every entry's partner at distance 4096. -/
noncomputable def nb12 {α : Type} (v : S2x512x128.Idx → α) : S2x512x128.Idx → α :=
  select (bit 4096#32) (up12 v) (dn12 v)

/-- The stage at distance 4096. -/
noncomputable def stg12 (k : BitVec 32) (p : St F) : St F := step 4096#32 k p (nb12 p.1, nb12 p.2)

/-- The array moved forward by 8192 positions, around the end. -/
noncomputable def up13 {α : Type} (v : S2x512x128.Idx → α) : S2x512x128.Idx → α :=
  concatenate S2x512x128 2 [⟨S2x512x16, extractStridedSlice S2x512x16 ![0, 0, 112] v slices_S2x512x128_o0_0_112_S2x512x16⟩, ⟨S2x512x112, extractStridedSlice S2x512x112 ![0, 0, 0] v slices_S2x512x128_o0_0_0_S2x512x112⟩] concatenates_S2x512x16_S2x512x112_S2x512x128_d2

/-- The array moved back by 8192 positions, around the end. -/
noncomputable def dn13 {α : Type} (v : S2x512x128.Idx → α) : S2x512x128.Idx → α :=
  concatenate S2x512x128 2 [⟨S2x512x112, extractStridedSlice S2x512x112 ![0, 0, 16] v slices_S2x512x128_o0_0_16_S2x512x112⟩, ⟨S2x512x16, extractStridedSlice S2x512x16 ![0, 0, 0] v slices_S2x512x128_o0_0_0_S2x512x16⟩] concatenates_S2x512x112_S2x512x16_S2x512x128_d2

/-- Every entry's partner at distance 8192. -/
noncomputable def nb13 {α : Type} (v : S2x512x128.Idx → α) : S2x512x128.Idx → α :=
  select (bit 8192#32) (up13 v) (dn13 v)

/-- The stage at distance 8192. -/
noncomputable def stg13 (k : BitVec 32) (p : St F) : St F := step 8192#32 k p (nb13 p.1, nb13 p.2)

/-- The array moved forward by 16384 positions, around the end. -/
noncomputable def up14 {α : Type} (v : S2x512x128.Idx → α) : S2x512x128.Idx → α :=
  concatenate S2x512x128 2 [⟨S2x512x32, extractStridedSlice S2x512x32 ![0, 0, 96] v slices_S2x512x128_o0_0_96_S2x512x32⟩, ⟨S2x512x96, extractStridedSlice S2x512x96 ![0, 0, 0] v slices_S2x512x128_o0_0_0_S2x512x96⟩] concatenates_S2x512x32_S2x512x96_S2x512x128_d2

/-- The array moved back by 16384 positions, around the end. -/
noncomputable def dn14 {α : Type} (v : S2x512x128.Idx → α) : S2x512x128.Idx → α :=
  concatenate S2x512x128 2 [⟨S2x512x96, extractStridedSlice S2x512x96 ![0, 0, 32] v slices_S2x512x128_o0_0_32_S2x512x96⟩, ⟨S2x512x32, extractStridedSlice S2x512x32 ![0, 0, 0] v slices_S2x512x128_o0_0_0_S2x512x32⟩] concatenates_S2x512x96_S2x512x32_S2x512x128_d2

/-- Every entry's partner at distance 16384. -/
noncomputable def nb14 {α : Type} (v : S2x512x128.Idx → α) : S2x512x128.Idx → α :=
  select (bit 16384#32) (up14 v) (dn14 v)

/-- The stage at distance 16384. -/
noncomputable def stg14 (k : BitVec 32) (p : St F) : St F := step 16384#32 k p (nb14 p.1, nb14 p.2)

/-- The array moved forward by 32768 positions, around the end. -/
noncomputable def up15 {α : Type} (v : S2x512x128.Idx → α) : S2x512x128.Idx → α :=
  concatenate S2x512x128 2 [⟨S2x512x64, extractStridedSlice S2x512x64 ![0, 0, 64] v slices_S2x512x128_o0_0_64_S2x512x64⟩, ⟨S2x512x64, extractStridedSlice S2x512x64 ![0, 0, 0] v slices_S2x512x128_o0_0_0_S2x512x64⟩] concatenates_S2x512x64_S2x512x64_S2x512x128_d2

/-- The array moved back by 32768 positions, around the end. -/
noncomputable def dn15 {α : Type} (v : S2x512x128.Idx → α) : S2x512x128.Idx → α :=
  concatenate S2x512x128 2 [⟨S2x512x64, extractStridedSlice S2x512x64 ![0, 0, 64] v slices_S2x512x128_o0_0_64_S2x512x64⟩, ⟨S2x512x64, extractStridedSlice S2x512x64 ![0, 0, 0] v slices_S2x512x128_o0_0_0_S2x512x64⟩] concatenates_S2x512x64_S2x512x64_S2x512x128_d2

/-- Every entry's partner at distance 32768. -/
noncomputable def nb15 {α : Type} (v : S2x512x128.Idx → α) : S2x512x128.Idx → α :=
  select (bit 32768#32) (up15 v) (dn15 v)

/-- The stage at distance 32768. -/
noncomputable def stg15 (k : BitVec 32) (p : St F) : St F := step 32768#32 k p (nb15 p.1, nb15 p.2)

/-- The state at the start: the values as they come, and each entry's index in the image. -/
noncomputable def st0 (w : FVec F S2x512x128 .f32) : St F := (w, kernelRun1_A.sl.v9)

/-- The state after 1 stage. -/
noncomputable def st1 (w : FVec F S2x512x128 .f32) : St F := stg0 2#32 (st0 w)

/-- The state after 2 stages. -/
noncomputable def st2 (w : FVec F S2x512x128 .f32) : St F := stg1 4#32 (st1 w)

/-- The state after 3 stages. -/
noncomputable def st3 (w : FVec F S2x512x128 .f32) : St F := stg0 4#32 (st2 w)

/-- The state after 4 stages. -/
noncomputable def st4 (w : FVec F S2x512x128 .f32) : St F := stg2 8#32 (st3 w)

/-- The state after 5 stages. -/
noncomputable def st5 (w : FVec F S2x512x128 .f32) : St F := stg1 8#32 (st4 w)

/-- The state after 6 stages. -/
noncomputable def st6 (w : FVec F S2x512x128 .f32) : St F := stg0 8#32 (st5 w)

/-- The state after 7 stages. -/
noncomputable def st7 (w : FVec F S2x512x128 .f32) : St F := stg3 16#32 (st6 w)

/-- The state after 8 stages. -/
noncomputable def st8 (w : FVec F S2x512x128 .f32) : St F := stg2 16#32 (st7 w)

/-- The state after 9 stages. -/
noncomputable def st9 (w : FVec F S2x512x128 .f32) : St F := stg1 16#32 (st8 w)

/-- The state after 10 stages. -/
noncomputable def st10 (w : FVec F S2x512x128 .f32) : St F := stg0 16#32 (st9 w)

/-- The state after 11 stages. -/
noncomputable def st11 (w : FVec F S2x512x128 .f32) : St F := stg4 32#32 (st10 w)

/-- The state after 12 stages. -/
noncomputable def st12 (w : FVec F S2x512x128 .f32) : St F := stg3 32#32 (st11 w)

/-- The state after 13 stages. -/
noncomputable def st13 (w : FVec F S2x512x128 .f32) : St F := stg2 32#32 (st12 w)

/-- The state after 14 stages. -/
noncomputable def st14 (w : FVec F S2x512x128 .f32) : St F := stg1 32#32 (st13 w)

/-- The state after 15 stages. -/
noncomputable def st15 (w : FVec F S2x512x128 .f32) : St F := stg0 32#32 (st14 w)

/-- The state after 16 stages. -/
noncomputable def st16 (w : FVec F S2x512x128 .f32) : St F := stg5 64#32 (st15 w)

/-- The state after 17 stages. -/
noncomputable def st17 (w : FVec F S2x512x128 .f32) : St F := stg4 64#32 (st16 w)

/-- The state after 18 stages. -/
noncomputable def st18 (w : FVec F S2x512x128 .f32) : St F := stg3 64#32 (st17 w)

/-- The state after 19 stages. -/
noncomputable def st19 (w : FVec F S2x512x128 .f32) : St F := stg2 64#32 (st18 w)

/-- The state after 20 stages. -/
noncomputable def st20 (w : FVec F S2x512x128 .f32) : St F := stg1 64#32 (st19 w)

/-- The state after 21 stages. -/
noncomputable def st21 (w : FVec F S2x512x128 .f32) : St F := stg0 64#32 (st20 w)

/-- The state after 22 stages. -/
noncomputable def st22 (w : FVec F S2x512x128 .f32) : St F := stg6 128#32 (st21 w)

/-- The state after 23 stages. -/
noncomputable def st23 (w : FVec F S2x512x128 .f32) : St F := stg5 128#32 (st22 w)

/-- The state after 24 stages. -/
noncomputable def st24 (w : FVec F S2x512x128 .f32) : St F := stg4 128#32 (st23 w)

/-- The state after 25 stages. -/
noncomputable def st25 (w : FVec F S2x512x128 .f32) : St F := stg3 128#32 (st24 w)

/-- The state after 26 stages. -/
noncomputable def st26 (w : FVec F S2x512x128 .f32) : St F := stg2 128#32 (st25 w)

/-- The state after 27 stages. -/
noncomputable def st27 (w : FVec F S2x512x128 .f32) : St F := stg1 128#32 (st26 w)

/-- The state after 28 stages. -/
noncomputable def st28 (w : FVec F S2x512x128 .f32) : St F := stg0 128#32 (st27 w)

/-- The state after 29 stages. -/
noncomputable def st29 (w : FVec F S2x512x128 .f32) : St F := stg7 256#32 (st28 w)

/-- The state after 30 stages. -/
noncomputable def st30 (w : FVec F S2x512x128 .f32) : St F := stg6 256#32 (st29 w)

/-- The state after 31 stages. -/
noncomputable def st31 (w : FVec F S2x512x128 .f32) : St F := stg5 256#32 (st30 w)

/-- The state after 32 stages. -/
noncomputable def st32 (w : FVec F S2x512x128 .f32) : St F := stg4 256#32 (st31 w)

/-- The state after 33 stages. -/
noncomputable def st33 (w : FVec F S2x512x128 .f32) : St F := stg3 256#32 (st32 w)

/-- The state after 34 stages. -/
noncomputable def st34 (w : FVec F S2x512x128 .f32) : St F := stg2 256#32 (st33 w)

/-- The state after 35 stages. -/
noncomputable def st35 (w : FVec F S2x512x128 .f32) : St F := stg1 256#32 (st34 w)

/-- The state after 36 stages. -/
noncomputable def st36 (w : FVec F S2x512x128 .f32) : St F := stg0 256#32 (st35 w)

/-- The state after 37 stages. -/
noncomputable def st37 (w : FVec F S2x512x128 .f32) : St F := stg8 512#32 (st36 w)

/-- The state after 38 stages. -/
noncomputable def st38 (w : FVec F S2x512x128 .f32) : St F := stg7 512#32 (st37 w)

/-- The state after 39 stages. -/
noncomputable def st39 (w : FVec F S2x512x128 .f32) : St F := stg6 512#32 (st38 w)

/-- The state after 40 stages. -/
noncomputable def st40 (w : FVec F S2x512x128 .f32) : St F := stg5 512#32 (st39 w)

/-- The state after 41 stages. -/
noncomputable def st41 (w : FVec F S2x512x128 .f32) : St F := stg4 512#32 (st40 w)

/-- The state after 42 stages. -/
noncomputable def st42 (w : FVec F S2x512x128 .f32) : St F := stg3 512#32 (st41 w)

/-- The state after 43 stages. -/
noncomputable def st43 (w : FVec F S2x512x128 .f32) : St F := stg2 512#32 (st42 w)

/-- The state after 44 stages. -/
noncomputable def st44 (w : FVec F S2x512x128 .f32) : St F := stg1 512#32 (st43 w)

/-- The state after 45 stages. -/
noncomputable def st45 (w : FVec F S2x512x128 .f32) : St F := stg0 512#32 (st44 w)

/-- The state after 46 stages. -/
noncomputable def st46 (w : FVec F S2x512x128 .f32) : St F := stg9 1024#32 (st45 w)

/-- The state after 47 stages. -/
noncomputable def st47 (w : FVec F S2x512x128 .f32) : St F := stg8 1024#32 (st46 w)

/-- The state after 48 stages. -/
noncomputable def st48 (w : FVec F S2x512x128 .f32) : St F := stg7 1024#32 (st47 w)

/-- The state after 49 stages. -/
noncomputable def st49 (w : FVec F S2x512x128 .f32) : St F := stg6 1024#32 (st48 w)

/-- The state after 50 stages. -/
noncomputable def st50 (w : FVec F S2x512x128 .f32) : St F := stg5 1024#32 (st49 w)

/-- The state after 51 stages. -/
noncomputable def st51 (w : FVec F S2x512x128 .f32) : St F := stg4 1024#32 (st50 w)

/-- The state after 52 stages. -/
noncomputable def st52 (w : FVec F S2x512x128 .f32) : St F := stg3 1024#32 (st51 w)

/-- The state after 53 stages. -/
noncomputable def st53 (w : FVec F S2x512x128 .f32) : St F := stg2 1024#32 (st52 w)

/-- The state after 54 stages. -/
noncomputable def st54 (w : FVec F S2x512x128 .f32) : St F := stg1 1024#32 (st53 w)

/-- The state after 55 stages. -/
noncomputable def st55 (w : FVec F S2x512x128 .f32) : St F := stg0 1024#32 (st54 w)

/-- The state after 56 stages. -/
noncomputable def st56 (w : FVec F S2x512x128 .f32) : St F := stg10 2048#32 (st55 w)

/-- The state after 57 stages. -/
noncomputable def st57 (w : FVec F S2x512x128 .f32) : St F := stg9 2048#32 (st56 w)

/-- The state after 58 stages. -/
noncomputable def st58 (w : FVec F S2x512x128 .f32) : St F := stg8 2048#32 (st57 w)

/-- The state after 59 stages. -/
noncomputable def st59 (w : FVec F S2x512x128 .f32) : St F := stg7 2048#32 (st58 w)

/-- The state after 60 stages. -/
noncomputable def st60 (w : FVec F S2x512x128 .f32) : St F := stg6 2048#32 (st59 w)

/-- The state after 61 stages. -/
noncomputable def st61 (w : FVec F S2x512x128 .f32) : St F := stg5 2048#32 (st60 w)

/-- The state after 62 stages. -/
noncomputable def st62 (w : FVec F S2x512x128 .f32) : St F := stg4 2048#32 (st61 w)

/-- The state after 63 stages. -/
noncomputable def st63 (w : FVec F S2x512x128 .f32) : St F := stg3 2048#32 (st62 w)

/-- The state after 64 stages. -/
noncomputable def st64 (w : FVec F S2x512x128 .f32) : St F := stg2 2048#32 (st63 w)

/-- The state after 65 stages. -/
noncomputable def st65 (w : FVec F S2x512x128 .f32) : St F := stg1 2048#32 (st64 w)

/-- The state after 66 stages. -/
noncomputable def st66 (w : FVec F S2x512x128 .f32) : St F := stg0 2048#32 (st65 w)

/-- The state after 67 stages. -/
noncomputable def st67 (w : FVec F S2x512x128 .f32) : St F := stg11 4096#32 (st66 w)

/-- The state after 68 stages. -/
noncomputable def st68 (w : FVec F S2x512x128 .f32) : St F := stg10 4096#32 (st67 w)

/-- The state after 69 stages. -/
noncomputable def st69 (w : FVec F S2x512x128 .f32) : St F := stg9 4096#32 (st68 w)

/-- The state after 70 stages. -/
noncomputable def st70 (w : FVec F S2x512x128 .f32) : St F := stg8 4096#32 (st69 w)

/-- The state after 71 stages. -/
noncomputable def st71 (w : FVec F S2x512x128 .f32) : St F := stg7 4096#32 (st70 w)

/-- The state after 72 stages. -/
noncomputable def st72 (w : FVec F S2x512x128 .f32) : St F := stg6 4096#32 (st71 w)

/-- The state after 73 stages. -/
noncomputable def st73 (w : FVec F S2x512x128 .f32) : St F := stg5 4096#32 (st72 w)

/-- The state after 74 stages. -/
noncomputable def st74 (w : FVec F S2x512x128 .f32) : St F := stg4 4096#32 (st73 w)

/-- The state after 75 stages. -/
noncomputable def st75 (w : FVec F S2x512x128 .f32) : St F := stg3 4096#32 (st74 w)

/-- The state after 76 stages. -/
noncomputable def st76 (w : FVec F S2x512x128 .f32) : St F := stg2 4096#32 (st75 w)

/-- The state after 77 stages. -/
noncomputable def st77 (w : FVec F S2x512x128 .f32) : St F := stg1 4096#32 (st76 w)

/-- The state after 78 stages. -/
noncomputable def st78 (w : FVec F S2x512x128 .f32) : St F := stg0 4096#32 (st77 w)

/-- The state after 79 stages. -/
noncomputable def st79 (w : FVec F S2x512x128 .f32) : St F := stg12 8192#32 (st78 w)

/-- The state after 80 stages. -/
noncomputable def st80 (w : FVec F S2x512x128 .f32) : St F := stg11 8192#32 (st79 w)

/-- The state after 81 stages. -/
noncomputable def st81 (w : FVec F S2x512x128 .f32) : St F := stg10 8192#32 (st80 w)

/-- The state after 82 stages. -/
noncomputable def st82 (w : FVec F S2x512x128 .f32) : St F := stg9 8192#32 (st81 w)

/-- The state after 83 stages. -/
noncomputable def st83 (w : FVec F S2x512x128 .f32) : St F := stg8 8192#32 (st82 w)

/-- The state after 84 stages. -/
noncomputable def st84 (w : FVec F S2x512x128 .f32) : St F := stg7 8192#32 (st83 w)

/-- The state after 85 stages. -/
noncomputable def st85 (w : FVec F S2x512x128 .f32) : St F := stg6 8192#32 (st84 w)

/-- The state after 86 stages. -/
noncomputable def st86 (w : FVec F S2x512x128 .f32) : St F := stg5 8192#32 (st85 w)

/-- The state after 87 stages. -/
noncomputable def st87 (w : FVec F S2x512x128 .f32) : St F := stg4 8192#32 (st86 w)

/-- The state after 88 stages. -/
noncomputable def st88 (w : FVec F S2x512x128 .f32) : St F := stg3 8192#32 (st87 w)

/-- The state after 89 stages. -/
noncomputable def st89 (w : FVec F S2x512x128 .f32) : St F := stg2 8192#32 (st88 w)

/-- The state after 90 stages. -/
noncomputable def st90 (w : FVec F S2x512x128 .f32) : St F := stg1 8192#32 (st89 w)

/-- The state after 91 stages. -/
noncomputable def st91 (w : FVec F S2x512x128 .f32) : St F := stg0 8192#32 (st90 w)

/-- The state after 92 stages. -/
noncomputable def st92 (w : FVec F S2x512x128 .f32) : St F := stg13 16384#32 (st91 w)

/-- The state after 93 stages. -/
noncomputable def st93 (w : FVec F S2x512x128 .f32) : St F := stg12 16384#32 (st92 w)

/-- The state after 94 stages. -/
noncomputable def st94 (w : FVec F S2x512x128 .f32) : St F := stg11 16384#32 (st93 w)

/-- The state after 95 stages. -/
noncomputable def st95 (w : FVec F S2x512x128 .f32) : St F := stg10 16384#32 (st94 w)

/-- The state after 96 stages. -/
noncomputable def st96 (w : FVec F S2x512x128 .f32) : St F := stg9 16384#32 (st95 w)

/-- The state after 97 stages. -/
noncomputable def st97 (w : FVec F S2x512x128 .f32) : St F := stg8 16384#32 (st96 w)

/-- The state after 98 stages. -/
noncomputable def st98 (w : FVec F S2x512x128 .f32) : St F := stg7 16384#32 (st97 w)

/-- The state after 99 stages. -/
noncomputable def st99 (w : FVec F S2x512x128 .f32) : St F := stg6 16384#32 (st98 w)

/-- The state after 100 stages. -/
noncomputable def st100 (w : FVec F S2x512x128 .f32) : St F := stg5 16384#32 (st99 w)

/-- The state after 101 stages. -/
noncomputable def st101 (w : FVec F S2x512x128 .f32) : St F := stg4 16384#32 (st100 w)

/-- The state after 102 stages. -/
noncomputable def st102 (w : FVec F S2x512x128 .f32) : St F := stg3 16384#32 (st101 w)

/-- The state after 103 stages. -/
noncomputable def st103 (w : FVec F S2x512x128 .f32) : St F := stg2 16384#32 (st102 w)

/-- The state after 104 stages. -/
noncomputable def st104 (w : FVec F S2x512x128 .f32) : St F := stg1 16384#32 (st103 w)

/-- The state after 105 stages. -/
noncomputable def st105 (w : FVec F S2x512x128 .f32) : St F := stg0 16384#32 (st104 w)

/-- The state after 106 stages. -/
noncomputable def st106 (w : FVec F S2x512x128 .f32) : St F := stg14 32768#32 (st105 w)

/-- The state after 107 stages. -/
noncomputable def st107 (w : FVec F S2x512x128 .f32) : St F := stg13 32768#32 (st106 w)

/-- The state after 108 stages. -/
noncomputable def st108 (w : FVec F S2x512x128 .f32) : St F := stg12 32768#32 (st107 w)

/-- The state after 109 stages. -/
noncomputable def st109 (w : FVec F S2x512x128 .f32) : St F := stg11 32768#32 (st108 w)

/-- The state after 110 stages. -/
noncomputable def st110 (w : FVec F S2x512x128 .f32) : St F := stg10 32768#32 (st109 w)

/-- The state after 111 stages. -/
noncomputable def st111 (w : FVec F S2x512x128 .f32) : St F := stg9 32768#32 (st110 w)

/-- The state after 112 stages. -/
noncomputable def st112 (w : FVec F S2x512x128 .f32) : St F := stg8 32768#32 (st111 w)

/-- The state after 113 stages. -/
noncomputable def st113 (w : FVec F S2x512x128 .f32) : St F := stg7 32768#32 (st112 w)

/-- The state after 114 stages. -/
noncomputable def st114 (w : FVec F S2x512x128 .f32) : St F := stg6 32768#32 (st113 w)

/-- The state after 115 stages. -/
noncomputable def st115 (w : FVec F S2x512x128 .f32) : St F := stg5 32768#32 (st114 w)

/-- The state after 116 stages. -/
noncomputable def st116 (w : FVec F S2x512x128 .f32) : St F := stg4 32768#32 (st115 w)

/-- The state after 117 stages. -/
noncomputable def st117 (w : FVec F S2x512x128 .f32) : St F := stg3 32768#32 (st116 w)

/-- The state after 118 stages. -/
noncomputable def st118 (w : FVec F S2x512x128 .f32) : St F := stg2 32768#32 (st117 w)

/-- The state after 119 stages. -/
noncomputable def st119 (w : FVec F S2x512x128 .f32) : St F := stg1 32768#32 (st118 w)

/-- The state after 120 stages. -/
noncomputable def st120 (w : FVec F S2x512x128 .f32) : St F := stg0 32768#32 (st119 w)

/-- The state after 121 stages. -/
noncomputable def st121 (w : FVec F S2x512x128 .f32) : St F := stg15 65536#32 (st120 w)

/-- The state after 122 stages. -/
noncomputable def st122 (w : FVec F S2x512x128 .f32) : St F := stg14 65536#32 (st121 w)

/-- The state after 123 stages. -/
noncomputable def st123 (w : FVec F S2x512x128 .f32) : St F := stg13 65536#32 (st122 w)

/-- The state after 124 stages. -/
noncomputable def st124 (w : FVec F S2x512x128 .f32) : St F := stg12 65536#32 (st123 w)

/-- The state after 125 stages. -/
noncomputable def st125 (w : FVec F S2x512x128 .f32) : St F := stg11 65536#32 (st124 w)

/-- The state after 126 stages. -/
noncomputable def st126 (w : FVec F S2x512x128 .f32) : St F := stg10 65536#32 (st125 w)

/-- The state after 127 stages. -/
noncomputable def st127 (w : FVec F S2x512x128 .f32) : St F := stg9 65536#32 (st126 w)

/-- The state after 128 stages. -/
noncomputable def st128 (w : FVec F S2x512x128 .f32) : St F := stg8 65536#32 (st127 w)

/-- The state after 129 stages. -/
noncomputable def st129 (w : FVec F S2x512x128 .f32) : St F := stg7 65536#32 (st128 w)

/-- The state after 130 stages. -/
noncomputable def st130 (w : FVec F S2x512x128 .f32) : St F := stg6 65536#32 (st129 w)

/-- The state after 131 stages. -/
noncomputable def st131 (w : FVec F S2x512x128 .f32) : St F := stg5 65536#32 (st130 w)

/-- The state after 132 stages. -/
noncomputable def st132 (w : FVec F S2x512x128 .f32) : St F := stg4 65536#32 (st131 w)

/-- The state after 133 stages. -/
noncomputable def st133 (w : FVec F S2x512x128 .f32) : St F := stg3 65536#32 (st132 w)

/-- The state after 134 stages. -/
noncomputable def st134 (w : FVec F S2x512x128 .f32) : St F := stg2 65536#32 (st133 w)

/-- The state after 135 stages. -/
noncomputable def st135 (w : FVec F S2x512x128 .f32) : St F := stg1 65536#32 (st134 w)

/-- The state after 136 stages. -/
noncomputable def st136 (w : FVec F S2x512x128 .f32) : St F := stg0 65536#32 (st135 w)

end Cert.KernelIdeal.Sort
-- ==== Proof.ChainA.lean ====
module

public import proofs.«01_k».proof.Proof.Stage

/-! # The values named first are the stages' states -/

@[expose] public section

open Idealize.ShloMosaic

namespace Cert.KernelIdeal.Sort

open Cert.KernelIdeal Cert.KernelIdeal.Gen

variable {F : FTy → Type} [FloatOps F] [Named F]

variable (c : Dev nD) (arg0 : Memref sig .tc .vmem S2x512x128 .f32) (harg0 : arg0.IsWhole)
  (x0 : Vec F S2x512x128 .f32)

theorem s0 : (kernelRun1_A.sl.v1 c arg0 harg0 x0, kernelRun1_A.sl.v9) = st0 (kernelRun1_A.sl.v1 c arg0 harg0 x0) := rfl

theorem s1 : (kernelRun1_A.sl.v40 c arg0 harg0 x0, kernelRun1_A.sl.v41 c arg0 harg0 x0) = st1 (kernelRun1_A.sl.v1 c arg0 harg0 x0) := by
  rw [st1, ← s0]; rfl

theorem s2 : (kernelRun1_A.sl.v72 c arg0 harg0 x0, kernelRun1_A.sl.v73 c arg0 harg0 x0) = st2 (kernelRun1_A.sl.v1 c arg0 harg0 x0) := by
  rw [st2, ← s1]; rfl

theorem s3 : (kernelRun1_A.sl.v104 c arg0 harg0 x0, kernelRun1_A.sl.v105 c arg0 harg0 x0) = st3 (kernelRun1_A.sl.v1 c arg0 harg0 x0) := by
  rw [st3, ← s2]; rfl

theorem s4 : (kernelRun1_A.sl.v136 c arg0 harg0 x0, kernelRun1_A.sl.v137 c arg0 harg0 x0) = st4 (kernelRun1_A.sl.v1 c arg0 harg0 x0) := by
  rw [st4, ← s3]; rfl

theorem s5 : (kernelRun1_A.sl.v168 c arg0 harg0 x0, kernelRun1_A.sl.v169 c arg0 harg0 x0) = st5 (kernelRun1_A.sl.v1 c arg0 harg0 x0) := by
  rw [st5, ← s4]; rfl

theorem s6 : (kernelRun1_A.sl.v200 c arg0 harg0 x0, kernelRun1_A.sl.v201 c arg0 harg0 x0) = st6 (kernelRun1_A.sl.v1 c arg0 harg0 x0) := by
  rw [st6, ← s5]; rfl

theorem s7 : (kernelRun1_A.sl.v232 c arg0 harg0 x0, kernelRun1_A.sl.v233 c arg0 harg0 x0) = st7 (kernelRun1_A.sl.v1 c arg0 harg0 x0) := by
  rw [st7, ← s6]; rfl

theorem s8 : (kernelRun1_A.sl.v264 c arg0 harg0 x0, kernelRun1_A.sl.v265 c arg0 harg0 x0) = st8 (kernelRun1_A.sl.v1 c arg0 harg0 x0) := by
  rw [st8, ← s7]; rfl

theorem s9 : (kernelRun1_A.sl.v296 c arg0 harg0 x0, kernelRun1_A.sl.v297 c arg0 harg0 x0) = st9 (kernelRun1_A.sl.v1 c arg0 harg0 x0) := by
  rw [st9, ← s8]; rfl

theorem s10 : (kernelRun1_A.sl.v328 c arg0 harg0 x0, kernelRun1_A.sl.v329 c arg0 harg0 x0) = st10 (kernelRun1_A.sl.v1 c arg0 harg0 x0) := by
  rw [st10, ← s9]; rfl

theorem s11 : (kernelRun1_A.sl.v360 c arg0 harg0 x0, kernelRun1_A.sl.v361 c arg0 harg0 x0) = st11 (kernelRun1_A.sl.v1 c arg0 harg0 x0) := by
  rw [st11, ← s10]; rfl

theorem s12 : (kernelRun1_A.sl.v392 c arg0 harg0 x0, kernelRun1_A.sl.v393 c arg0 harg0 x0) = st12 (kernelRun1_A.sl.v1 c arg0 harg0 x0) := by
  rw [st12, ← s11]; rfl

theorem s13 : (kernelRun1_A.sl.v424 c arg0 harg0 x0, kernelRun1_A.sl.v425 c arg0 harg0 x0) = st13 (kernelRun1_A.sl.v1 c arg0 harg0 x0) := by
  rw [st13, ← s12]; rfl

theorem s14 : (kernelRun1_A.sl.v456 c arg0 harg0 x0, kernelRun1_A.sl.v457 c arg0 harg0 x0) = st14 (kernelRun1_A.sl.v1 c arg0 harg0 x0) := by
  rw [st14, ← s13]; rfl

theorem s15 : (kernelRun1_A.sl.v488 c arg0 harg0 x0, kernelRun1_A.sl.v489 c arg0 harg0 x0) = st15 (kernelRun1_A.sl.v1 c arg0 harg0 x0) := by
  rw [st15, ← s14]; rfl

theorem s16 : (kernelRun1_A.sl.v520 c arg0 harg0 x0, kernelRun1_A.sl.v521 c arg0 harg0 x0) = st16 (kernelRun1_A.sl.v1 c arg0 harg0 x0) := by
  rw [st16, ← s15]; rfl

theorem s17 : (kernelRun1_A.sl.v552 c arg0 harg0 x0, kernelRun1_A.sl.v553 c arg0 harg0 x0) = st17 (kernelRun1_A.sl.v1 c arg0 harg0 x0) := by
  rw [st17, ← s16]; rfl

theorem s18 : (kernelRun1_A.sl.v584 c arg0 harg0 x0, kernelRun1_A.sl.v585 c arg0 harg0 x0) = st18 (kernelRun1_A.sl.v1 c arg0 harg0 x0) := by
  rw [st18, ← s17]; rfl

theorem s19 : (kernelRun1_A.sl.v616 c arg0 harg0 x0, kernelRun1_A.sl.v617 c arg0 harg0 x0) = st19 (kernelRun1_A.sl.v1 c arg0 harg0 x0) := by
  rw [st19, ← s18]; rfl

theorem s20 : (kernelRun1_A.sl.v648 c arg0 harg0 x0, kernelRun1_A.sl.v649 c arg0 harg0 x0) = st20 (kernelRun1_A.sl.v1 c arg0 harg0 x0) := by
  rw [st20, ← s19]; rfl

theorem s21 : (kernelRun1_A.sl.v680 c arg0 harg0 x0, kernelRun1_A.sl.v681 c arg0 harg0 x0) = st21 (kernelRun1_A.sl.v1 c arg0 harg0 x0) := by
  rw [st21, ← s20]; rfl

theorem s22 : (kernelRun1_A.sl.v712 c arg0 harg0 x0, kernelRun1_A.sl.v713 c arg0 harg0 x0) = st22 (kernelRun1_A.sl.v1 c arg0 harg0 x0) := by
  rw [st22, ← s21]; rfl

theorem s23 : (kernelRun1_A.sl.v744 c arg0 harg0 x0, kernelRun1_A.sl.v745 c arg0 harg0 x0) = st23 (kernelRun1_A.sl.v1 c arg0 harg0 x0) := by
  rw [st23, ← s22]; rfl

theorem s24 : (kernelRun1_A.sl.v776 c arg0 harg0 x0, kernelRun1_A.sl.v777 c arg0 harg0 x0) = st24 (kernelRun1_A.sl.v1 c arg0 harg0 x0) := by
  rw [st24, ← s23]; rfl

theorem s25 : (kernelRun1_A.sl.v808 c arg0 harg0 x0, kernelRun1_A.sl.v809 c arg0 harg0 x0) = st25 (kernelRun1_A.sl.v1 c arg0 harg0 x0) := by
  rw [st25, ← s24]; rfl

theorem s26 : (kernelRun1_A.sl.v840 c arg0 harg0 x0, kernelRun1_A.sl.v841 c arg0 harg0 x0) = st26 (kernelRun1_A.sl.v1 c arg0 harg0 x0) := by
  rw [st26, ← s25]; rfl

theorem s27 : (kernelRun1_A.sl.v872 c arg0 harg0 x0, kernelRun1_A.sl.v873 c arg0 harg0 x0) = st27 (kernelRun1_A.sl.v1 c arg0 harg0 x0) := by
  rw [st27, ← s26]; rfl

theorem s28 : (kernelRun1_A.sl.v904 c arg0 harg0 x0, kernelRun1_A.sl.v905 c arg0 harg0 x0) = st28 (kernelRun1_A.sl.v1 c arg0 harg0 x0) := by
  rw [st28, ← s27]; rfl

theorem s29 : (kernelRun1_A.sl.v936 c arg0 harg0 x0, kernelRun1_A.sl.v937 c arg0 harg0 x0) = st29 (kernelRun1_A.sl.v1 c arg0 harg0 x0) := by
  rw [st29, ← s28]; rfl

theorem s30 : (kernelRun1_A.sl.v968 c arg0 harg0 x0, kernelRun1_A.sl.v969 c arg0 harg0 x0) = st30 (kernelRun1_A.sl.v1 c arg0 harg0 x0) := by
  rw [st30, ← s29]; rfl

theorem s31 : (kernelRun1_A.sl.v1000 c arg0 harg0 x0, kernelRun1_A.sl.v1001 c arg0 harg0 x0) = st31 (kernelRun1_A.sl.v1 c arg0 harg0 x0) := by
  rw [st31, ← s30]; rfl

theorem s32 : (kernelRun1_A.sl.v1032 c arg0 harg0 x0, kernelRun1_A.sl.v1033 c arg0 harg0 x0) = st32 (kernelRun1_A.sl.v1 c arg0 harg0 x0) := by
  rw [st32, ← s31]; rfl

theorem s33 : (kernelRun1_A.sl.v1064 c arg0 harg0 x0, kernelRun1_A.sl.v1065 c arg0 harg0 x0) = st33 (kernelRun1_A.sl.v1 c arg0 harg0 x0) := by
  rw [st33, ← s32]; rfl

theorem s34 : (kernelRun1_A.sl.v1096 c arg0 harg0 x0, kernelRun1_A.sl.v1097 c arg0 harg0 x0) = st34 (kernelRun1_A.sl.v1 c arg0 harg0 x0) := by
  rw [st34, ← s33]; rfl

theorem s35 : (kernelRun1_A.sl.v1128 c arg0 harg0 x0, kernelRun1_A.sl.v1129 c arg0 harg0 x0) = st35 (kernelRun1_A.sl.v1 c arg0 harg0 x0) := by
  rw [st35, ← s34]; rfl

theorem s36 : (kernelRun1_A.sl.v1160 c arg0 harg0 x0, kernelRun1_A.sl.v1161 c arg0 harg0 x0) = st36 (kernelRun1_A.sl.v1 c arg0 harg0 x0) := by
  rw [st36, ← s35]; rfl

theorem s37 : (kernelRun1_A.sl.v1192 c arg0 harg0 x0, kernelRun1_A.sl.v1193 c arg0 harg0 x0) = st37 (kernelRun1_A.sl.v1 c arg0 harg0 x0) := by
  rw [st37, ← s36]; rfl

theorem s38 : (kernelRun1_A.sl.v1224 c arg0 harg0 x0, kernelRun1_A.sl.v1225 c arg0 harg0 x0) = st38 (kernelRun1_A.sl.v1 c arg0 harg0 x0) := by
  rw [st38, ← s37]; rfl

theorem s39 : (kernelRun1_A.sl.v1256 c arg0 harg0 x0, kernelRun1_A.sl.v1257 c arg0 harg0 x0) = st39 (kernelRun1_A.sl.v1 c arg0 harg0 x0) := by
  rw [st39, ← s38]; rfl

theorem s40 : (kernelRun1_A.sl.v1288 c arg0 harg0 x0, kernelRun1_A.sl.v1289 c arg0 harg0 x0) = st40 (kernelRun1_A.sl.v1 c arg0 harg0 x0) := by
  rw [st40, ← s39]; rfl

theorem s41 : (kernelRun1_A.sl.v1320 c arg0 harg0 x0, kernelRun1_A.sl.v1321 c arg0 harg0 x0) = st41 (kernelRun1_A.sl.v1 c arg0 harg0 x0) := by
  rw [st41, ← s40]; rfl

theorem s42 : (kernelRun1_A.sl.v1352 c arg0 harg0 x0, kernelRun1_A.sl.v1353 c arg0 harg0 x0) = st42 (kernelRun1_A.sl.v1 c arg0 harg0 x0) := by
  rw [st42, ← s41]; rfl

theorem s43 : (kernelRun1_A.sl.v1384 c arg0 harg0 x0, kernelRun1_A.sl.v1385 c arg0 harg0 x0) = st43 (kernelRun1_A.sl.v1 c arg0 harg0 x0) := by
  rw [st43, ← s42]; rfl

theorem s44 : (kernelRun1_A.sl.v1416 c arg0 harg0 x0, kernelRun1_A.sl.v1417 c arg0 harg0 x0) = st44 (kernelRun1_A.sl.v1 c arg0 harg0 x0) := by
  rw [st44, ← s43]; rfl

theorem s45 : (kernelRun1_A.sl.v1448 c arg0 harg0 x0, kernelRun1_A.sl.v1449 c arg0 harg0 x0) = st45 (kernelRun1_A.sl.v1 c arg0 harg0 x0) := by
  rw [st45, ← s44]; rfl

theorem s46 : (kernelRun1_A.sl.v1480 c arg0 harg0 x0, kernelRun1_A.sl.v1481 c arg0 harg0 x0) = st46 (kernelRun1_A.sl.v1 c arg0 harg0 x0) := by
  rw [st46, ← s45]; rfl

theorem s47 : (kernelRun1_A.sl.v1512 c arg0 harg0 x0, kernelRun1_A.sl.v1513 c arg0 harg0 x0) = st47 (kernelRun1_A.sl.v1 c arg0 harg0 x0) := by
  rw [st47, ← s46]; rfl

theorem s48 : (kernelRun1_A.sl.v1544 c arg0 harg0 x0, kernelRun1_A.sl.v1545 c arg0 harg0 x0) = st48 (kernelRun1_A.sl.v1 c arg0 harg0 x0) := by
  rw [st48, ← s47]; rfl

theorem s49 : (kernelRun1_A.sl.v1576 c arg0 harg0 x0, kernelRun1_A.sl.v1577 c arg0 harg0 x0) = st49 (kernelRun1_A.sl.v1 c arg0 harg0 x0) := by
  rw [st49, ← s48]; rfl

theorem s50 : (kernelRun1_A.sl.v1608 c arg0 harg0 x0, kernelRun1_A.sl.v1609 c arg0 harg0 x0) = st50 (kernelRun1_A.sl.v1 c arg0 harg0 x0) := by
  rw [st50, ← s49]; rfl

theorem s51 : (kernelRun1_A.sl.v1640 c arg0 harg0 x0, kernelRun1_A.sl.v1641 c arg0 harg0 x0) = st51 (kernelRun1_A.sl.v1 c arg0 harg0 x0) := by
  rw [st51, ← s50]; rfl

theorem s52 : (kernelRun1_A.sl.v1672 c arg0 harg0 x0, kernelRun1_A.sl.v1673 c arg0 harg0 x0) = st52 (kernelRun1_A.sl.v1 c arg0 harg0 x0) := by
  rw [st52, ← s51]; rfl

theorem s53 : (kernelRun1_A.sl.v1704 c arg0 harg0 x0, kernelRun1_A.sl.v1705 c arg0 harg0 x0) = st53 (kernelRun1_A.sl.v1 c arg0 harg0 x0) := by
  rw [st53, ← s52]; rfl

theorem s54 : (kernelRun1_A.sl.v1736 c arg0 harg0 x0, kernelRun1_A.sl.v1737 c arg0 harg0 x0) = st54 (kernelRun1_A.sl.v1 c arg0 harg0 x0) := by
  rw [st54, ← s53]; rfl

theorem s55 : (kernelRun1_A.sl.v1768 c arg0 harg0 x0, kernelRun1_A.sl.v1769 c arg0 harg0 x0) = st55 (kernelRun1_A.sl.v1 c arg0 harg0 x0) := by
  rw [st55, ← s54]; rfl

theorem s56 : (kernelRun1_A.sl.v1800 c arg0 harg0 x0, kernelRun1_A.sl.v1801 c arg0 harg0 x0) = st56 (kernelRun1_A.sl.v1 c arg0 harg0 x0) := by
  rw [st56, ← s55]; rfl

theorem s57 : (kernelRun1_A.sl.v1832 c arg0 harg0 x0, kernelRun1_A.sl.v1833 c arg0 harg0 x0) = st57 (kernelRun1_A.sl.v1 c arg0 harg0 x0) := by
  rw [st57, ← s56]; rfl

theorem s58 : (kernelRun1_A.sl.v1864 c arg0 harg0 x0, kernelRun1_A.sl.v1865 c arg0 harg0 x0) = st58 (kernelRun1_A.sl.v1 c arg0 harg0 x0) := by
  rw [st58, ← s57]; rfl

theorem s59 : (kernelRun1_A.sl.v1896 c arg0 harg0 x0, kernelRun1_A.sl.v1897 c arg0 harg0 x0) = st59 (kernelRun1_A.sl.v1 c arg0 harg0 x0) := by
  rw [st59, ← s58]; rfl

theorem s60 : (kernelRun1_A.sl.v1928 c arg0 harg0 x0, kernelRun1_A.sl.v1929 c arg0 harg0 x0) = st60 (kernelRun1_A.sl.v1 c arg0 harg0 x0) := by
  rw [st60, ← s59]; rfl

theorem s61 : (kernelRun1_A.sl.v1960 c arg0 harg0 x0, kernelRun1_A.sl.v1961 c arg0 harg0 x0) = st61 (kernelRun1_A.sl.v1 c arg0 harg0 x0) := by
  rw [st61, ← s60]; rfl

theorem s62 : (kernelRun1_A.sl.v1992 c arg0 harg0 x0, kernelRun1_A.sl.v1993 c arg0 harg0 x0) = st62 (kernelRun1_A.sl.v1 c arg0 harg0 x0) := by
  rw [st62, ← s61]; rfl

theorem s63 : (kernelRun1_A.sl.v2024 c arg0 harg0 x0, kernelRun1_A.sl.v2025 c arg0 harg0 x0) = st63 (kernelRun1_A.sl.v1 c arg0 harg0 x0) := by
  rw [st63, ← s62]; rfl

theorem s64 : (kernelRun1_A.sl.v2056 c arg0 harg0 x0, kernelRun1_A.sl.v2057 c arg0 harg0 x0) = st64 (kernelRun1_A.sl.v1 c arg0 harg0 x0) := by
  rw [st64, ← s63]; rfl

theorem s65 : (kernelRun1_A.sl.v2088 c arg0 harg0 x0, kernelRun1_A.sl.v2089 c arg0 harg0 x0) = st65 (kernelRun1_A.sl.v1 c arg0 harg0 x0) := by
  rw [st65, ← s64]; rfl

theorem s66 : (kernelRun1_A.sl.v2120 c arg0 harg0 x0, kernelRun1_A.sl.v2121 c arg0 harg0 x0) = st66 (kernelRun1_A.sl.v1 c arg0 harg0 x0) := by
  rw [st66, ← s65]; rfl

theorem s67 : (kernelRun1_A.sl.v2152 c arg0 harg0 x0, kernelRun1_A.sl.v2153 c arg0 harg0 x0) = st67 (kernelRun1_A.sl.v1 c arg0 harg0 x0) := by
  rw [st67, ← s66]; rfl

theorem s68 : (kernelRun1_A.sl.v2184 c arg0 harg0 x0, kernelRun1_A.sl.v2185 c arg0 harg0 x0) = st68 (kernelRun1_A.sl.v1 c arg0 harg0 x0) := by
  rw [st68, ← s67]; rfl

theorem s69 : (kernelRun1_A.sl.v2216 c arg0 harg0 x0, kernelRun1_A.sl.v2217 c arg0 harg0 x0) = st69 (kernelRun1_A.sl.v1 c arg0 harg0 x0) := by
  rw [st69, ← s68]; rfl

theorem s70 : (kernelRun1_A.sl.v2248 c arg0 harg0 x0, kernelRun1_A.sl.v2249 c arg0 harg0 x0) = st70 (kernelRun1_A.sl.v1 c arg0 harg0 x0) := by
  rw [st70, ← s69]; rfl

theorem s71 : (kernelRun1_A.sl.v2280 c arg0 harg0 x0, kernelRun1_A.sl.v2281 c arg0 harg0 x0) = st71 (kernelRun1_A.sl.v1 c arg0 harg0 x0) := by
  rw [st71, ← s70]; rfl

theorem s72 : (kernelRun1_A.sl.v2312 c arg0 harg0 x0, kernelRun1_A.sl.v2313 c arg0 harg0 x0) = st72 (kernelRun1_A.sl.v1 c arg0 harg0 x0) := by
  rw [st72, ← s71]; rfl

theorem s73 : (kernelRun1_A.sl.v2344 c arg0 harg0 x0, kernelRun1_A.sl.v2345 c arg0 harg0 x0) = st73 (kernelRun1_A.sl.v1 c arg0 harg0 x0) := by
  rw [st73, ← s72]; rfl

theorem s74 : (kernelRun1_A.sl.v2376 c arg0 harg0 x0, kernelRun1_A.sl.v2377 c arg0 harg0 x0) = st74 (kernelRun1_A.sl.v1 c arg0 harg0 x0) := by
  rw [st74, ← s73]; rfl

theorem s75 : (kernelRun1_A.sl.v2408 c arg0 harg0 x0, kernelRun1_A.sl.v2409 c arg0 harg0 x0) = st75 (kernelRun1_A.sl.v1 c arg0 harg0 x0) := by
  rw [st75, ← s74]; rfl

theorem s76 : (kernelRun1_A.sl.v2440 c arg0 harg0 x0, kernelRun1_A.sl.v2441 c arg0 harg0 x0) = st76 (kernelRun1_A.sl.v1 c arg0 harg0 x0) := by
  rw [st76, ← s75]; rfl

theorem s77 : (kernelRun1_A.sl.v2472 c arg0 harg0 x0, kernelRun1_A.sl.v2473 c arg0 harg0 x0) = st77 (kernelRun1_A.sl.v1 c arg0 harg0 x0) := by
  rw [st77, ← s76]; rfl

theorem s78 : (kernelRun1_A.sl.v2504 c arg0 harg0 x0, kernelRun1_A.sl.v2505 c arg0 harg0 x0) = st78 (kernelRun1_A.sl.v1 c arg0 harg0 x0) := by
  rw [st78, ← s77]; rfl

theorem s79 : (kernelRun1_A.sl.v2536 c arg0 harg0 x0, kernelRun1_A.sl.v2537 c arg0 harg0 x0) = st79 (kernelRun1_A.sl.v1 c arg0 harg0 x0) := by
  rw [st79, ← s78]; rfl

theorem s80 : (kernelRun1_A.sl.v2568 c arg0 harg0 x0, kernelRun1_A.sl.v2569 c arg0 harg0 x0) = st80 (kernelRun1_A.sl.v1 c arg0 harg0 x0) := by
  rw [st80, ← s79]; rfl

theorem s81 : (kernelRun1_A.sl.v2600 c arg0 harg0 x0, kernelRun1_A.sl.v2601 c arg0 harg0 x0) = st81 (kernelRun1_A.sl.v1 c arg0 harg0 x0) := by
  rw [st81, ← s80]; rfl

theorem s82 : (kernelRun1_A.sl.v2632 c arg0 harg0 x0, kernelRun1_A.sl.v2633 c arg0 harg0 x0) = st82 (kernelRun1_A.sl.v1 c arg0 harg0 x0) := by
  rw [st82, ← s81]; rfl

theorem s83 : (kernelRun1_A.sl.v2664 c arg0 harg0 x0, kernelRun1_A.sl.v2665 c arg0 harg0 x0) = st83 (kernelRun1_A.sl.v1 c arg0 harg0 x0) := by
  rw [st83, ← s82]; rfl

theorem s84 : (kernelRun1_A.sl.v2696 c arg0 harg0 x0, kernelRun1_A.sl.v2697 c arg0 harg0 x0) = st84 (kernelRun1_A.sl.v1 c arg0 harg0 x0) := by
  rw [st84, ← s83]; rfl

theorem s85 : (kernelRun1_A.sl.v2728 c arg0 harg0 x0, kernelRun1_A.sl.v2729 c arg0 harg0 x0) = st85 (kernelRun1_A.sl.v1 c arg0 harg0 x0) := by
  rw [st85, ← s84]; rfl

theorem s86 : (kernelRun1_A.sl.v2760 c arg0 harg0 x0, kernelRun1_A.sl.v2761 c arg0 harg0 x0) = st86 (kernelRun1_A.sl.v1 c arg0 harg0 x0) := by
  rw [st86, ← s85]; rfl

theorem s87 : (kernelRun1_A.sl.v2792 c arg0 harg0 x0, kernelRun1_A.sl.v2793 c arg0 harg0 x0) = st87 (kernelRun1_A.sl.v1 c arg0 harg0 x0) := by
  rw [st87, ← s86]; rfl

theorem s88 : (kernelRun1_A.sl.v2824 c arg0 harg0 x0, kernelRun1_A.sl.v2825 c arg0 harg0 x0) = st88 (kernelRun1_A.sl.v1 c arg0 harg0 x0) := by
  rw [st88, ← s87]; rfl

theorem s89 : (kernelRun1_A.sl.v2856 c arg0 harg0 x0, kernelRun1_A.sl.v2857 c arg0 harg0 x0) = st89 (kernelRun1_A.sl.v1 c arg0 harg0 x0) := by
  rw [st89, ← s88]; rfl

theorem s90 : (kernelRun1_A.sl.v2888 c arg0 harg0 x0, kernelRun1_A.sl.v2889 c arg0 harg0 x0) = st90 (kernelRun1_A.sl.v1 c arg0 harg0 x0) := by
  rw [st90, ← s89]; rfl

theorem s91 : (kernelRun1_A.sl.v2920 c arg0 harg0 x0, kernelRun1_A.sl.v2921 c arg0 harg0 x0) = st91 (kernelRun1_A.sl.v1 c arg0 harg0 x0) := by
  rw [st91, ← s90]; rfl

theorem s92 : (kernelRun1_A.sl.v2952 c arg0 harg0 x0, kernelRun1_A.sl.v2953 c arg0 harg0 x0) = st92 (kernelRun1_A.sl.v1 c arg0 harg0 x0) := by
  rw [st92, ← s91]; rfl

theorem s93 : (kernelRun1_A.sl.v2984 c arg0 harg0 x0, kernelRun1_A.sl.v2985 c arg0 harg0 x0) = st93 (kernelRun1_A.sl.v1 c arg0 harg0 x0) := by
  rw [st93, ← s92]; rfl

theorem s94 : (kernelRun1_A.sl.v3016 c arg0 harg0 x0, kernelRun1_A.sl.v3017 c arg0 harg0 x0) = st94 (kernelRun1_A.sl.v1 c arg0 harg0 x0) := by
  rw [st94, ← s93]; rfl

theorem s95 : (kernelRun1_A.sl.v3048 c arg0 harg0 x0, kernelRun1_A.sl.v3049 c arg0 harg0 x0) = st95 (kernelRun1_A.sl.v1 c arg0 harg0 x0) := by
  rw [st95, ← s94]; rfl

theorem s96 : (kernelRun1_A.sl.v3080 c arg0 harg0 x0, kernelRun1_A.sl.v3081 c arg0 harg0 x0) = st96 (kernelRun1_A.sl.v1 c arg0 harg0 x0) := by
  rw [st96, ← s95]; rfl

end Cert.KernelIdeal.Sort
-- ==== Proof.ChainB.lean ====
module

public import proofs.«01_k».proof.Proof.ChainA

/-! # The values named by a part's results -/

@[expose] public section

open Idealize.ShloMosaic

namespace Cert.KernelIdeal.Sort

open Cert.KernelIdeal Cert.KernelIdeal.Gen

variable {F : FTy → Type} [FloatOps F] [Named F]

variable (c : Dev nD) (arg0 : Memref sig .tc .vmem S2x512x128 .f32) (harg0 : arg0.IsWhole)
  (x0 : Vec F S2x512x128 .f32)

theorem e_v3080 : kernelRun1_A.sl.v3080 c arg0 harg0 x0 = (st96 (kernelRun1_A.sl.v1 c arg0 harg0 x0)).1 := by
  rw [← s96]

theorem e_v3081 : kernelRun1_A.sl.v3081 c arg0 harg0 x0 = (st96 (kernelRun1_A.sl.v1 c arg0 harg0 x0)).2 := by
  rw [← s96]

theorem e_v3092 : kernelRun1_A.sl.v3092 c arg0 harg0 x0 = (nb8 (st96 (kernelRun1_A.sl.v1 c arg0 harg0 x0)).1) := by
  rw [← s96]; rfl

theorem e_v3099 : kernelRun1_A.sl.v3099 c arg0 harg0 x0 = (nb8 (st96 (kernelRun1_A.sl.v1 c arg0 harg0 x0)).2) := by
  rw [← s96]; rfl

theorem e_v3110 : kernelRun1_A.sl.v3110 c arg0 harg0 x0 = (xori (better (st96 (kernelRun1_A.sl.v1 c arg0 harg0 x0)).1 (nb8 (st96 (kernelRun1_A.sl.v1 c arg0 harg0 x0)).1) (st96 (kernelRun1_A.sl.v1 c arg0 harg0 x0)).2 (nb8 (st96 (kernelRun1_A.sl.v1 c arg0 harg0 x0)).2)) (xori (clr 16384#32) (bit 256#32))) := by
  rw [← s96]; rfl

theorem e_r : kernelRun1_A.sl.r c arg0 harg0 x0 = (st98 (kernelRun1_A.sl.v1 c arg0 harg0 x0)).1 := by
  show k1_pay675 kernelRun1_A.sl.v6 (kernelRun1_A.sl.v3080 c arg0 harg0 x0) (kernelRun1_A.sl.v3081 c arg0 harg0 x0) (kernelRun1_A.sl.v3092 c arg0 harg0 x0) (kernelRun1_A.sl.v3099 c arg0 harg0 x0) (kernelRun1_A.sl.v3110 c arg0 harg0 x0) = _
  rw [e_v3080, e_v3081, e_v3092, e_v3099, e_v3110]; rfl

theorem e_r_1 : kernelRun1_A.sl.r_1 c arg0 harg0 x0 = (st98 (kernelRun1_A.sl.v1 c arg0 harg0 x0)).2 := by
  show k1_pay676 kernelRun1_A.sl.v6 (kernelRun1_A.sl.v3080 c arg0 harg0 x0) (kernelRun1_A.sl.v3081 c arg0 harg0 x0) (kernelRun1_A.sl.v3092 c arg0 harg0 x0) (kernelRun1_A.sl.v3099 c arg0 harg0 x0) (kernelRun1_A.sl.v3110 c arg0 harg0 x0) = _
  rw [e_v3080, e_v3081, e_v3092, e_v3099, e_v3110]; rfl

theorem e_r_2 : kernelRun1_A.sl.r_2 c arg0 harg0 x0 = (nb6 (st98 (kernelRun1_A.sl.v1 c arg0 harg0 x0)).1) := by
  show k1_pay678 kernelRun1_A.sl.v6 (kernelRun1_A.sl.v3080 c arg0 harg0 x0) (kernelRun1_A.sl.v3081 c arg0 harg0 x0) (kernelRun1_A.sl.v3092 c arg0 harg0 x0) (kernelRun1_A.sl.v3099 c arg0 harg0 x0) (kernelRun1_A.sl.v3110 c arg0 harg0 x0) = _
  rw [e_v3080, e_v3081, e_v3092, e_v3099, e_v3110]; rfl

theorem e_r_3 : kernelRun1_A.sl.r_3 c arg0 harg0 x0 = (up6 (st98 (kernelRun1_A.sl.v1 c arg0 harg0 x0)).2) := by
  show k1_pay679 kernelRun1_A.sl.v6 (kernelRun1_A.sl.v3080 c arg0 harg0 x0) (kernelRun1_A.sl.v3081 c arg0 harg0 x0) (kernelRun1_A.sl.v3092 c arg0 harg0 x0) (kernelRun1_A.sl.v3099 c arg0 harg0 x0) (kernelRun1_A.sl.v3110 c arg0 harg0 x0) = _
  rw [e_v3080, e_v3081, e_v3092, e_v3099, e_v3110]; rfl

theorem e_r_4 : kernelRun1_A.sl.r_4 c arg0 harg0 x0 = (dn6 (st98 (kernelRun1_A.sl.v1 c arg0 harg0 x0)).2) := by
  show k1_pay680 kernelRun1_A.sl.v6 (kernelRun1_A.sl.v3080 c arg0 harg0 x0) (kernelRun1_A.sl.v3081 c arg0 harg0 x0) (kernelRun1_A.sl.v3092 c arg0 harg0 x0) (kernelRun1_A.sl.v3099 c arg0 harg0 x0) (kernelRun1_A.sl.v3110 c arg0 harg0 x0) = _
  rw [e_v3080, e_v3081, e_v3092, e_v3099, e_v3110]; rfl

theorem e_r_5 : kernelRun1_A.sl.r_5 c arg0 harg0 x0 = (st100 (kernelRun1_A.sl.v1 c arg0 harg0 x0)).1 := by
  show k1_pay689 kernelRun1_A.sl.v6 (kernelRun1_A.sl.r c arg0 harg0 x0) (kernelRun1_A.sl.r_1 c arg0 harg0 x0) (k1_pay677 kernelRun1_A.sl.v6) (kernelRun1_A.sl.r_2 c arg0 harg0 x0) (kernelRun1_A.sl.r_3 c arg0 harg0 x0) (kernelRun1_A.sl.r_4 c arg0 harg0 x0) = _
  rw [e_r, e_r_1, e_r_2, e_r_3, e_r_4]; rfl

theorem e_r_6 : kernelRun1_A.sl.r_6 c arg0 harg0 x0 = (st100 (kernelRun1_A.sl.v1 c arg0 harg0 x0)).2 := by
  show k1_pay690 kernelRun1_A.sl.v6 (kernelRun1_A.sl.r c arg0 harg0 x0) (kernelRun1_A.sl.r_1 c arg0 harg0 x0) (k1_pay677 kernelRun1_A.sl.v6) (kernelRun1_A.sl.r_2 c arg0 harg0 x0) (kernelRun1_A.sl.r_3 c arg0 harg0 x0) (kernelRun1_A.sl.r_4 c arg0 harg0 x0) = _
  rw [e_r, e_r_1, e_r_2, e_r_3, e_r_4]; rfl

theorem e_r_7 : kernelRun1_A.sl.r_7 c arg0 harg0 x0 = (st101 (kernelRun1_A.sl.v1 c arg0 harg0 x0)).1 := by
  show k1_pay697 kernelRun1_A.sl.v6 (kernelRun1_A.sl.r_5 c arg0 harg0 x0) (kernelRun1_A.sl.r_6 c arg0 harg0 x0) (k1_pay691 kernelRun1_A.sl.v6) k1_pay692 = _
  rw [e_r_5, e_r_6]; rfl

theorem e_r_8 : kernelRun1_A.sl.r_8 c arg0 harg0 x0 = (st101 (kernelRun1_A.sl.v1 c arg0 harg0 x0)).2 := by
  show k1_pay698 kernelRun1_A.sl.v6 (kernelRun1_A.sl.r_5 c arg0 harg0 x0) (kernelRun1_A.sl.r_6 c arg0 harg0 x0) (k1_pay691 kernelRun1_A.sl.v6) k1_pay692 = _
  rw [e_r_5, e_r_6]; rfl

theorem e_r_9 : kernelRun1_A.sl.r_9 c arg0 harg0 x0 = (nb3 (st101 (kernelRun1_A.sl.v1 c arg0 harg0 x0)).1) := by
  show k1_pay700 kernelRun1_A.sl.v6 (kernelRun1_A.sl.r_5 c arg0 harg0 x0) (kernelRun1_A.sl.r_6 c arg0 harg0 x0) (k1_pay691 kernelRun1_A.sl.v6) k1_pay692 = _
  rw [e_r_5, e_r_6]; rfl

theorem e_r_10 : kernelRun1_A.sl.r_10 c arg0 harg0 x0 = (nb3 (st101 (kernelRun1_A.sl.v1 c arg0 harg0 x0)).2) := by
  show k1_pay701 kernelRun1_A.sl.v6 (kernelRun1_A.sl.r_5 c arg0 harg0 x0) (kernelRun1_A.sl.r_6 c arg0 harg0 x0) (k1_pay691 kernelRun1_A.sl.v6) k1_pay692 = _
  rw [e_r_5, e_r_6]; rfl

theorem e_r_11 : kernelRun1_A.sl.r_11 c arg0 harg0 x0 = (better (st101 (kernelRun1_A.sl.v1 c arg0 harg0 x0)).1 (nb3 (st101 (kernelRun1_A.sl.v1 c arg0 harg0 x0)).1) (st101 (kernelRun1_A.sl.v1 c arg0 harg0 x0)).2 (nb3 (st101 (kernelRun1_A.sl.v1 c arg0 harg0 x0)).2)) := by
  show k1_pay702 kernelRun1_A.sl.v6 (kernelRun1_A.sl.r_5 c arg0 harg0 x0) (kernelRun1_A.sl.r_6 c arg0 harg0 x0) (k1_pay691 kernelRun1_A.sl.v6) k1_pay692 = _
  rw [e_r_5, e_r_6]; rfl

theorem e_r_12 : kernelRun1_A.sl.r_12 c arg0 harg0 x0 = (st103 (kernelRun1_A.sl.v1 c arg0 harg0 x0)).1 := by
  show k1_pay711 kernelRun1_A.sl.v6 (kernelRun1_A.sl.r_7 c arg0 harg0 x0) (kernelRun1_A.sl.r_8 c arg0 harg0 x0) (k1_pay699 kernelRun1_A.sl.v6) (kernelRun1_A.sl.r_9 c arg0 harg0 x0) (kernelRun1_A.sl.r_10 c arg0 harg0 x0) (kernelRun1_A.sl.r_11 c arg0 harg0 x0) (k1_pay703 kernelRun1_A.sl.v6) = _
  rw [e_r_7, e_r_8, e_r_9, e_r_10, e_r_11]; rfl

theorem e_r_13 : kernelRun1_A.sl.r_13 c arg0 harg0 x0 = (st103 (kernelRun1_A.sl.v1 c arg0 harg0 x0)).2 := by
  show k1_pay712 kernelRun1_A.sl.v6 (kernelRun1_A.sl.r_7 c arg0 harg0 x0) (kernelRun1_A.sl.r_8 c arg0 harg0 x0) (k1_pay699 kernelRun1_A.sl.v6) (kernelRun1_A.sl.r_9 c arg0 harg0 x0) (kernelRun1_A.sl.r_10 c arg0 harg0 x0) (kernelRun1_A.sl.r_11 c arg0 harg0 x0) (k1_pay703 kernelRun1_A.sl.v6) = _
  rw [e_r_7, e_r_8, e_r_9, e_r_10, e_r_11]; rfl

theorem e_r_14 : kernelRun1_A.sl.r_14 c arg0 harg0 x0 = (nb1 (st103 (kernelRun1_A.sl.v1 c arg0 harg0 x0)).1) := by
  show k1_pay714 kernelRun1_A.sl.v6 (kernelRun1_A.sl.r_7 c arg0 harg0 x0) (kernelRun1_A.sl.r_8 c arg0 harg0 x0) (k1_pay699 kernelRun1_A.sl.v6) (kernelRun1_A.sl.r_9 c arg0 harg0 x0) (kernelRun1_A.sl.r_10 c arg0 harg0 x0) (kernelRun1_A.sl.r_11 c arg0 harg0 x0) (k1_pay703 kernelRun1_A.sl.v6) = _
  rw [e_r_7, e_r_8, e_r_9, e_r_10, e_r_11]; rfl

theorem e_r_15 : kernelRun1_A.sl.r_15 c arg0 harg0 x0 = (extractStridedSlice S2x2x128 ![0, 510, 0] (st103 (kernelRun1_A.sl.v1 c arg0 harg0 x0)).2 slices_S2x512x128_o0_510_0_S2x2x128) := by
  show k1_pay715 kernelRun1_A.sl.v6 (kernelRun1_A.sl.r_7 c arg0 harg0 x0) (kernelRun1_A.sl.r_8 c arg0 harg0 x0) (k1_pay699 kernelRun1_A.sl.v6) (kernelRun1_A.sl.r_9 c arg0 harg0 x0) (kernelRun1_A.sl.r_10 c arg0 harg0 x0) (kernelRun1_A.sl.r_11 c arg0 harg0 x0) (k1_pay703 kernelRun1_A.sl.v6) = _
  rw [e_r_7, e_r_8, e_r_9, e_r_10, e_r_11]; rfl

theorem e_r_16 : kernelRun1_A.sl.r_16 c arg0 harg0 x0 = (st105 (kernelRun1_A.sl.v1 c arg0 harg0 x0)).1 := by
  show k1_pay724 kernelRun1_A.sl.v6 (kernelRun1_A.sl.r_12 c arg0 harg0 x0) (kernelRun1_A.sl.r_13 c arg0 harg0 x0) (k1_pay713 kernelRun1_A.sl.v6) (kernelRun1_A.sl.r_14 c arg0 harg0 x0) (kernelRun1_A.sl.r_15 c arg0 harg0 x0) = _
  rw [e_r_12, e_r_13, e_r_14, e_r_15]; rfl

theorem e_r_17 : kernelRun1_A.sl.r_17 c arg0 harg0 x0 = (st105 (kernelRun1_A.sl.v1 c arg0 harg0 x0)).2 := by
  show k1_pay725 kernelRun1_A.sl.v6 (kernelRun1_A.sl.r_12 c arg0 harg0 x0) (kernelRun1_A.sl.r_13 c arg0 harg0 x0) (k1_pay713 kernelRun1_A.sl.v6) (kernelRun1_A.sl.r_14 c arg0 harg0 x0) (kernelRun1_A.sl.r_15 c arg0 harg0 x0) = _
  rw [e_r_12, e_r_13, e_r_14, e_r_15]; rfl

theorem e_r_18 : kernelRun1_A.sl.r_18 c arg0 harg0 x0 = (st106 (kernelRun1_A.sl.v1 c arg0 harg0 x0)).1 := by
  show k1_pay730 kernelRun1_A.sl.v6 (kernelRun1_A.sl.r_16 c arg0 harg0 x0) (kernelRun1_A.sl.r_17 c arg0 harg0 x0) = _
  rw [e_r_16, e_r_17]; rfl

theorem e_r_19 : kernelRun1_A.sl.r_19 c arg0 harg0 x0 = (st106 (kernelRun1_A.sl.v1 c arg0 harg0 x0)).2 := by
  show k1_pay731 kernelRun1_A.sl.v6 (kernelRun1_A.sl.r_16 c arg0 harg0 x0) (kernelRun1_A.sl.r_17 c arg0 harg0 x0) = _
  rw [e_r_16, e_r_17]; rfl

theorem e_r_20 : kernelRun1_A.sl.r_20 c arg0 harg0 x0 = (nb13 (st106 (kernelRun1_A.sl.v1 c arg0 harg0 x0)).1) := by
  show k1_pay733 kernelRun1_A.sl.v6 (kernelRun1_A.sl.r_16 c arg0 harg0 x0) (kernelRun1_A.sl.r_17 c arg0 harg0 x0) = _
  rw [e_r_16, e_r_17]; rfl

theorem e_r_21 : kernelRun1_A.sl.r_21 c arg0 harg0 x0 = (nb13 (st106 (kernelRun1_A.sl.v1 c arg0 harg0 x0)).2) := by
  show k1_pay734 kernelRun1_A.sl.v6 (kernelRun1_A.sl.r_16 c arg0 harg0 x0) (kernelRun1_A.sl.r_17 c arg0 harg0 x0) = _
  rw [e_r_16, e_r_17]; rfl

theorem e_r_22 : kernelRun1_A.sl.r_22 c arg0 harg0 x0 = (cmpf .ogt (st106 (kernelRun1_A.sl.v1 c arg0 harg0 x0)).1 (nb13 (st106 (kernelRun1_A.sl.v1 c arg0 harg0 x0)).1)) := by
  show k1_pay735 kernelRun1_A.sl.v6 (kernelRun1_A.sl.r_16 c arg0 harg0 x0) (kernelRun1_A.sl.r_17 c arg0 harg0 x0) = _
  rw [e_r_16, e_r_17]; rfl

theorem e_r_23 : kernelRun1_A.sl.r_23 c arg0 harg0 x0 = (cmpf .oeq (st106 (kernelRun1_A.sl.v1 c arg0 harg0 x0)).1 (nb13 (st106 (kernelRun1_A.sl.v1 c arg0 harg0 x0)).1)) := by
  show k1_pay736 kernelRun1_A.sl.v6 (kernelRun1_A.sl.r_16 c arg0 harg0 x0) (kernelRun1_A.sl.r_17 c arg0 harg0 x0) = _
  rw [e_r_16, e_r_17]; rfl

theorem e_r_24 : kernelRun1_A.sl.r_24 c arg0 harg0 x0 = (cmpi .slt (st106 (kernelRun1_A.sl.v1 c arg0 harg0 x0)).2 (nb13 (st106 (kernelRun1_A.sl.v1 c arg0 harg0 x0)).2)) := by
  show k1_pay737 kernelRun1_A.sl.v6 (kernelRun1_A.sl.r_16 c arg0 harg0 x0) (kernelRun1_A.sl.r_17 c arg0 harg0 x0) = _
  rw [e_r_16, e_r_17]; rfl

theorem e_r_25 : kernelRun1_A.sl.r_25 c arg0 harg0 x0 = (st108 (kernelRun1_A.sl.v1 c arg0 harg0 x0)).1 := by
  show k1_pay745 kernelRun1_A.sl.v6 (kernelRun1_A.sl.r_18 c arg0 harg0 x0) (kernelRun1_A.sl.r_19 c arg0 harg0 x0) (k1_pay732 kernelRun1_A.sl.v6) (kernelRun1_A.sl.r_20 c arg0 harg0 x0) (kernelRun1_A.sl.r_21 c arg0 harg0 x0) (kernelRun1_A.sl.r_22 c arg0 harg0 x0) (kernelRun1_A.sl.r_23 c arg0 harg0 x0) (kernelRun1_A.sl.r_24 c arg0 harg0 x0) = _
  rw [e_r_18, e_r_19, e_r_20, e_r_21, e_r_22, e_r_23, e_r_24]; rfl

theorem e_r_26 : kernelRun1_A.sl.r_26 c arg0 harg0 x0 = (st108 (kernelRun1_A.sl.v1 c arg0 harg0 x0)).2 := by
  show k1_pay746 kernelRun1_A.sl.v6 (kernelRun1_A.sl.r_18 c arg0 harg0 x0) (kernelRun1_A.sl.r_19 c arg0 harg0 x0) (k1_pay732 kernelRun1_A.sl.v6) (kernelRun1_A.sl.r_20 c arg0 harg0 x0) (kernelRun1_A.sl.r_21 c arg0 harg0 x0) (kernelRun1_A.sl.r_22 c arg0 harg0 x0) (kernelRun1_A.sl.r_23 c arg0 harg0 x0) (kernelRun1_A.sl.r_24 c arg0 harg0 x0) = _
  rw [e_r_18, e_r_19, e_r_20, e_r_21, e_r_22, e_r_23, e_r_24]; rfl

theorem e_r_27 : kernelRun1_A.sl.r_27 c arg0 harg0 x0 = (up11 (st108 (kernelRun1_A.sl.v1 c arg0 harg0 x0)).1) := by
  show k1_pay748 kernelRun1_A.sl.v6 (kernelRun1_A.sl.r_18 c arg0 harg0 x0) (kernelRun1_A.sl.r_19 c arg0 harg0 x0) (k1_pay732 kernelRun1_A.sl.v6) (kernelRun1_A.sl.r_20 c arg0 harg0 x0) (kernelRun1_A.sl.r_21 c arg0 harg0 x0) (kernelRun1_A.sl.r_22 c arg0 harg0 x0) (kernelRun1_A.sl.r_23 c arg0 harg0 x0) (kernelRun1_A.sl.r_24 c arg0 harg0 x0) = _
  rw [e_r_18, e_r_19, e_r_20, e_r_21, e_r_22, e_r_23, e_r_24]; rfl

theorem e_r_28 : kernelRun1_A.sl.r_28 c arg0 harg0 x0 = (st109 (kernelRun1_A.sl.v1 c arg0 harg0 x0)).1 := by
  show k1_pay752 kernelRun1_A.sl.v6 (kernelRun1_A.sl.r_25 c arg0 harg0 x0) (kernelRun1_A.sl.r_26 c arg0 harg0 x0) (k1_pay747 kernelRun1_A.sl.v6) (kernelRun1_A.sl.r_27 c arg0 harg0 x0) = _
  rw [e_r_25, e_r_26, e_r_27]; rfl

theorem e_r_29 : kernelRun1_A.sl.r_29 c arg0 harg0 x0 = (st109 (kernelRun1_A.sl.v1 c arg0 harg0 x0)).2 := by
  show k1_pay753 kernelRun1_A.sl.v6 (kernelRun1_A.sl.r_25 c arg0 harg0 x0) (kernelRun1_A.sl.r_26 c arg0 harg0 x0) (k1_pay747 kernelRun1_A.sl.v6) (kernelRun1_A.sl.r_27 c arg0 harg0 x0) = _
  rw [e_r_25, e_r_26, e_r_27]; rfl

theorem e_r_30 : kernelRun1_A.sl.r_30 c arg0 harg0 x0 = (nb10 (st109 (kernelRun1_A.sl.v1 c arg0 harg0 x0)).1) := by
  show k1_pay755 kernelRun1_A.sl.v6 (kernelRun1_A.sl.r_25 c arg0 harg0 x0) (kernelRun1_A.sl.r_26 c arg0 harg0 x0) (k1_pay747 kernelRun1_A.sl.v6) (kernelRun1_A.sl.r_27 c arg0 harg0 x0) = _
  rw [e_r_25, e_r_26, e_r_27]; rfl

theorem e_r_31 : kernelRun1_A.sl.r_31 c arg0 harg0 x0 = (nb10 (st109 (kernelRun1_A.sl.v1 c arg0 harg0 x0)).2) := by
  show k1_pay756 kernelRun1_A.sl.v6 (kernelRun1_A.sl.r_25 c arg0 harg0 x0) (kernelRun1_A.sl.r_26 c arg0 harg0 x0) (k1_pay747 kernelRun1_A.sl.v6) (kernelRun1_A.sl.r_27 c arg0 harg0 x0) = _
  rw [e_r_25, e_r_26, e_r_27]; rfl

theorem e_r_32 : kernelRun1_A.sl.r_32 c arg0 harg0 x0 = (better (st109 (kernelRun1_A.sl.v1 c arg0 harg0 x0)).1 (nb10 (st109 (kernelRun1_A.sl.v1 c arg0 harg0 x0)).1) (st109 (kernelRun1_A.sl.v1 c arg0 harg0 x0)).2 (nb10 (st109 (kernelRun1_A.sl.v1 c arg0 harg0 x0)).2)) := by
  show k1_pay757 kernelRun1_A.sl.v6 (kernelRun1_A.sl.r_25 c arg0 harg0 x0) (kernelRun1_A.sl.r_26 c arg0 harg0 x0) (k1_pay747 kernelRun1_A.sl.v6) (kernelRun1_A.sl.r_27 c arg0 harg0 x0) = _
  rw [e_r_25, e_r_26, e_r_27]; rfl

theorem e_r_33 : kernelRun1_A.sl.r_33 c arg0 harg0 x0 = (st111 (kernelRun1_A.sl.v1 c arg0 harg0 x0)).1 := by
  show k1_pay766 kernelRun1_A.sl.v6 (kernelRun1_A.sl.r_28 c arg0 harg0 x0) (kernelRun1_A.sl.r_29 c arg0 harg0 x0) (kernelRun1_A.sl.r_30 c arg0 harg0 x0) (kernelRun1_A.sl.r_31 c arg0 harg0 x0) (kernelRun1_A.sl.r_32 c arg0 harg0 x0) (k1_pay758 kernelRun1_A.sl.v6) = _
  rw [e_r_28, e_r_29, e_r_30, e_r_31, e_r_32]; rfl

theorem e_r_34 : kernelRun1_A.sl.r_34 c arg0 harg0 x0 = (st111 (kernelRun1_A.sl.v1 c arg0 harg0 x0)).2 := by
  show k1_pay767 kernelRun1_A.sl.v6 (kernelRun1_A.sl.r_28 c arg0 harg0 x0) (kernelRun1_A.sl.r_29 c arg0 harg0 x0) (kernelRun1_A.sl.r_30 c arg0 harg0 x0) (kernelRun1_A.sl.r_31 c arg0 harg0 x0) (kernelRun1_A.sl.r_32 c arg0 harg0 x0) (k1_pay758 kernelRun1_A.sl.v6) = _
  rw [e_r_28, e_r_29, e_r_30, e_r_31, e_r_32]; rfl

theorem e_r_35 : kernelRun1_A.sl.r_35 c arg0 harg0 x0 = (nb8 (st111 (kernelRun1_A.sl.v1 c arg0 harg0 x0)).1) := by
  show k1_pay769 kernelRun1_A.sl.v6 (kernelRun1_A.sl.r_28 c arg0 harg0 x0) (kernelRun1_A.sl.r_29 c arg0 harg0 x0) (kernelRun1_A.sl.r_30 c arg0 harg0 x0) (kernelRun1_A.sl.r_31 c arg0 harg0 x0) (kernelRun1_A.sl.r_32 c arg0 harg0 x0) (k1_pay758 kernelRun1_A.sl.v6) = _
  rw [e_r_28, e_r_29, e_r_30, e_r_31, e_r_32]; rfl

theorem e_r_36 : kernelRun1_A.sl.r_36 c arg0 harg0 x0 = (up8 (st111 (kernelRun1_A.sl.v1 c arg0 harg0 x0)).2) := by
  show k1_pay770 kernelRun1_A.sl.v6 (kernelRun1_A.sl.r_28 c arg0 harg0 x0) (kernelRun1_A.sl.r_29 c arg0 harg0 x0) (kernelRun1_A.sl.r_30 c arg0 harg0 x0) (kernelRun1_A.sl.r_31 c arg0 harg0 x0) (kernelRun1_A.sl.r_32 c arg0 harg0 x0) (k1_pay758 kernelRun1_A.sl.v6) = _
  rw [e_r_28, e_r_29, e_r_30, e_r_31, e_r_32]; rfl

theorem e_r_37 : kernelRun1_A.sl.r_37 c arg0 harg0 x0 = (extractStridedSlice S2x256x128 ![0, 256, 0] (st111 (kernelRun1_A.sl.v1 c arg0 harg0 x0)).2 slices_S2x512x128_o0_256_0_S2x256x128) := by
  show k1_pay771 kernelRun1_A.sl.v6 (kernelRun1_A.sl.r_28 c arg0 harg0 x0) (kernelRun1_A.sl.r_29 c arg0 harg0 x0) (kernelRun1_A.sl.r_30 c arg0 harg0 x0) (kernelRun1_A.sl.r_31 c arg0 harg0 x0) (kernelRun1_A.sl.r_32 c arg0 harg0 x0) (k1_pay758 kernelRun1_A.sl.v6) = _
  rw [e_r_28, e_r_29, e_r_30, e_r_31, e_r_32]; rfl

theorem e_r_38 : kernelRun1_A.sl.r_38 c arg0 harg0 x0 = (extractStridedSlice S2x256x128 ![0, 0, 0] (st111 (kernelRun1_A.sl.v1 c arg0 harg0 x0)).2 slices_S2x512x128_o0_0_0_S2x256x128) := by
  show k1_pay772 kernelRun1_A.sl.v6 (kernelRun1_A.sl.r_28 c arg0 harg0 x0) (kernelRun1_A.sl.r_29 c arg0 harg0 x0) (kernelRun1_A.sl.r_30 c arg0 harg0 x0) (kernelRun1_A.sl.r_31 c arg0 harg0 x0) (kernelRun1_A.sl.r_32 c arg0 harg0 x0) (k1_pay758 kernelRun1_A.sl.v6) = _
  rw [e_r_28, e_r_29, e_r_30, e_r_31, e_r_32]; rfl

theorem e_r_39 : kernelRun1_A.sl.r_39 c arg0 harg0 x0 = (st113 (kernelRun1_A.sl.v1 c arg0 harg0 x0)).1 := by
  show k1_pay781 kernelRun1_A.sl.v6 (kernelRun1_A.sl.r_33 c arg0 harg0 x0) (kernelRun1_A.sl.r_34 c arg0 harg0 x0) (k1_pay768 kernelRun1_A.sl.v6) (kernelRun1_A.sl.r_35 c arg0 harg0 x0) (kernelRun1_A.sl.r_36 c arg0 harg0 x0) (kernelRun1_A.sl.r_37 c arg0 harg0 x0) (kernelRun1_A.sl.r_38 c arg0 harg0 x0) = _
  rw [e_r_33, e_r_34, e_r_35, e_r_36, e_r_37, e_r_38]; rfl

theorem e_r_40 : kernelRun1_A.sl.r_40 c arg0 harg0 x0 = (st113 (kernelRun1_A.sl.v1 c arg0 harg0 x0)).2 := by
  show k1_pay782 kernelRun1_A.sl.v6 (kernelRun1_A.sl.r_33 c arg0 harg0 x0) (kernelRun1_A.sl.r_34 c arg0 harg0 x0) (k1_pay768 kernelRun1_A.sl.v6) (kernelRun1_A.sl.r_35 c arg0 harg0 x0) (kernelRun1_A.sl.r_36 c arg0 harg0 x0) (kernelRun1_A.sl.r_37 c arg0 harg0 x0) (kernelRun1_A.sl.r_38 c arg0 harg0 x0) = _
  rw [e_r_33, e_r_34, e_r_35, e_r_36, e_r_37, e_r_38]; rfl

theorem e_r_41 : kernelRun1_A.sl.r_41 c arg0 harg0 x0 = (st114 (kernelRun1_A.sl.v1 c arg0 harg0 x0)).1 := by
  show k1_pay788 kernelRun1_A.sl.v6 (kernelRun1_A.sl.r_39 c arg0 harg0 x0) (kernelRun1_A.sl.r_40 c arg0 harg0 x0) (k1_pay783 kernelRun1_A.sl.v6) 0#32 = _
  rw [e_r_39, e_r_40]; rfl

theorem e_r_42 : kernelRun1_A.sl.r_42 c arg0 harg0 x0 = (st114 (kernelRun1_A.sl.v1 c arg0 harg0 x0)).2 := by
  show k1_pay789 kernelRun1_A.sl.v6 (kernelRun1_A.sl.r_39 c arg0 harg0 x0) (kernelRun1_A.sl.r_40 c arg0 harg0 x0) (k1_pay783 kernelRun1_A.sl.v6) 0#32 = _
  rw [e_r_39, e_r_40]; rfl

theorem e_r_43 : kernelRun1_A.sl.r_43 c arg0 harg0 x0 = (nb5 (st114 (kernelRun1_A.sl.v1 c arg0 harg0 x0)).1) := by
  show k1_pay791 kernelRun1_A.sl.v6 (kernelRun1_A.sl.r_39 c arg0 harg0 x0) (kernelRun1_A.sl.r_40 c arg0 harg0 x0) (k1_pay783 kernelRun1_A.sl.v6) 0#32 = _
  rw [e_r_39, e_r_40]; rfl

theorem e_r_44 : kernelRun1_A.sl.r_44 c arg0 harg0 x0 = (nb5 (st114 (kernelRun1_A.sl.v1 c arg0 harg0 x0)).2) := by
  show k1_pay792 kernelRun1_A.sl.v6 (kernelRun1_A.sl.r_39 c arg0 harg0 x0) (kernelRun1_A.sl.r_40 c arg0 harg0 x0) (k1_pay783 kernelRun1_A.sl.v6) 0#32 = _
  rw [e_r_39, e_r_40]; rfl

theorem e_r_45 : kernelRun1_A.sl.r_45 c arg0 harg0 x0 = (better (st114 (kernelRun1_A.sl.v1 c arg0 harg0 x0)).1 (nb5 (st114 (kernelRun1_A.sl.v1 c arg0 harg0 x0)).1) (st114 (kernelRun1_A.sl.v1 c arg0 harg0 x0)).2 (nb5 (st114 (kernelRun1_A.sl.v1 c arg0 harg0 x0)).2)) := by
  show k1_pay793 kernelRun1_A.sl.v6 (kernelRun1_A.sl.r_39 c arg0 harg0 x0) (kernelRun1_A.sl.r_40 c arg0 harg0 x0) (k1_pay783 kernelRun1_A.sl.v6) 0#32 = _
  rw [e_r_39, e_r_40]; rfl

theorem e_r_46 : kernelRun1_A.sl.r_46 c arg0 harg0 x0 = (st116 (kernelRun1_A.sl.v1 c arg0 harg0 x0)).1 := by
  show k1_pay802 kernelRun1_A.sl.v6 (kernelRun1_A.sl.r_41 c arg0 harg0 x0) (kernelRun1_A.sl.r_42 c arg0 harg0 x0) (k1_pay790 kernelRun1_A.sl.v6) (kernelRun1_A.sl.r_43 c arg0 harg0 x0) (kernelRun1_A.sl.r_44 c arg0 harg0 x0) (kernelRun1_A.sl.r_45 c arg0 harg0 x0) k1_pay794 = _
  rw [e_r_41, e_r_42, e_r_43, e_r_44, e_r_45]; rfl

theorem e_r_47 : kernelRun1_A.sl.r_47 c arg0 harg0 x0 = (st116 (kernelRun1_A.sl.v1 c arg0 harg0 x0)).2 := by
  show k1_pay803 kernelRun1_A.sl.v6 (kernelRun1_A.sl.r_41 c arg0 harg0 x0) (kernelRun1_A.sl.r_42 c arg0 harg0 x0) (k1_pay790 kernelRun1_A.sl.v6) (kernelRun1_A.sl.r_43 c arg0 harg0 x0) (kernelRun1_A.sl.r_44 c arg0 harg0 x0) (kernelRun1_A.sl.r_45 c arg0 harg0 x0) k1_pay794 = _
  rw [e_r_41, e_r_42, e_r_43, e_r_44, e_r_45]; rfl

theorem e_r_48 : kernelRun1_A.sl.r_48 c arg0 harg0 x0 = (nb3 (st116 (kernelRun1_A.sl.v1 c arg0 harg0 x0)).1) := by
  show k1_pay805 kernelRun1_A.sl.v6 (kernelRun1_A.sl.r_41 c arg0 harg0 x0) (kernelRun1_A.sl.r_42 c arg0 harg0 x0) (k1_pay790 kernelRun1_A.sl.v6) (kernelRun1_A.sl.r_43 c arg0 harg0 x0) (kernelRun1_A.sl.r_44 c arg0 harg0 x0) (kernelRun1_A.sl.r_45 c arg0 harg0 x0) k1_pay794 = _
  rw [e_r_41, e_r_42, e_r_43, e_r_44, e_r_45]; rfl

theorem e_r_49 : kernelRun1_A.sl.r_49 c arg0 harg0 x0 = (st117 (kernelRun1_A.sl.v1 c arg0 harg0 x0)).2 := by
  show k1_pay809 kernelRun1_A.sl.v6 (kernelRun1_A.sl.r_46 c arg0 harg0 x0) (kernelRun1_A.sl.r_47 c arg0 harg0 x0) (k1_pay804 kernelRun1_A.sl.v6) (kernelRun1_A.sl.r_48 c arg0 harg0 x0) = _
  rw [e_r_46, e_r_47, e_r_48]; rfl

theorem e_r_50 : kernelRun1_A.sl.r_50 c arg0 harg0 x0 = (nb2 (st117 (kernelRun1_A.sl.v1 c arg0 harg0 x0)).2) := by
  show k1_pay812 kernelRun1_A.sl.v6 (kernelRun1_A.sl.r_46 c arg0 harg0 x0) (kernelRun1_A.sl.r_47 c arg0 harg0 x0) (k1_pay804 kernelRun1_A.sl.v6) (kernelRun1_A.sl.r_48 c arg0 harg0 x0) = _
  rw [e_r_46, e_r_47, e_r_48]; rfl

theorem e_r_51 : kernelRun1_A.sl.r_51 c arg0 harg0 x0 = (keep (better (st117 (kernelRun1_A.sl.v1 c arg0 harg0 x0)).1 (nb2 (st117 (kernelRun1_A.sl.v1 c arg0 harg0 x0)).1) (st117 (kernelRun1_A.sl.v1 c arg0 harg0 x0)).2 (nb2 (st117 (kernelRun1_A.sl.v1 c arg0 harg0 x0)).2)) (xori (clr 32768#32) (bit 4#32))) := by
  show k1_pay813 kernelRun1_A.sl.v6 (kernelRun1_A.sl.r_46 c arg0 harg0 x0) (kernelRun1_A.sl.r_47 c arg0 harg0 x0) (k1_pay804 kernelRun1_A.sl.v6) (kernelRun1_A.sl.r_48 c arg0 harg0 x0) = _
  rw [e_r_46, e_r_47, e_r_48]; rfl

theorem e_r_52 : kernelRun1_A.sl.r_52 c arg0 harg0 x0 = (st118 (kernelRun1_A.sl.v1 c arg0 harg0 x0)).1 := by
  show k1_pay814 kernelRun1_A.sl.v6 (kernelRun1_A.sl.r_46 c arg0 harg0 x0) (kernelRun1_A.sl.r_47 c arg0 harg0 x0) (k1_pay804 kernelRun1_A.sl.v6) (kernelRun1_A.sl.r_48 c arg0 harg0 x0) = _
  rw [e_r_46, e_r_47, e_r_48]; rfl

theorem e_r_53 : kernelRun1_A.sl.r_53 c arg0 harg0 x0 = (st119 (kernelRun1_A.sl.v1 c arg0 harg0 x0)).1 := by
  show k1_pay820 kernelRun1_A.sl.v6 (kernelRun1_A.sl.r_49 c arg0 harg0 x0) (kernelRun1_A.sl.r_50 c arg0 harg0 x0) (kernelRun1_A.sl.r_51 c arg0 harg0 x0) (kernelRun1_A.sl.r_52 c arg0 harg0 x0) = _
  rw [e_r_49, e_r_50, e_r_51, e_r_52]; rfl

theorem e_r_54 : kernelRun1_A.sl.r_54 c arg0 harg0 x0 = (st119 (kernelRun1_A.sl.v1 c arg0 harg0 x0)).2 := by
  show k1_pay821 kernelRun1_A.sl.v6 (kernelRun1_A.sl.r_49 c arg0 harg0 x0) (kernelRun1_A.sl.r_50 c arg0 harg0 x0) (kernelRun1_A.sl.r_51 c arg0 harg0 x0) (kernelRun1_A.sl.r_52 c arg0 harg0 x0) = _
  rw [e_r_49, e_r_50, e_r_51, e_r_52]; rfl

theorem e_r_55 : kernelRun1_A.sl.r_55 c arg0 harg0 x0 = (nb0 (st119 (kernelRun1_A.sl.v1 c arg0 harg0 x0)).1) := by
  show k1_pay823 kernelRun1_A.sl.v6 (kernelRun1_A.sl.r_49 c arg0 harg0 x0) (kernelRun1_A.sl.r_50 c arg0 harg0 x0) (kernelRun1_A.sl.r_51 c arg0 harg0 x0) (kernelRun1_A.sl.r_52 c arg0 harg0 x0) = _
  rw [e_r_49, e_r_50, e_r_51, e_r_52]; rfl

theorem e_r_56 : kernelRun1_A.sl.r_56 c arg0 harg0 x0 = (nb0 (st119 (kernelRun1_A.sl.v1 c arg0 harg0 x0)).2) := by
  show k1_pay824 kernelRun1_A.sl.v6 (kernelRun1_A.sl.r_49 c arg0 harg0 x0) (kernelRun1_A.sl.r_50 c arg0 harg0 x0) (kernelRun1_A.sl.r_51 c arg0 harg0 x0) (kernelRun1_A.sl.r_52 c arg0 harg0 x0) = _
  rw [e_r_49, e_r_50, e_r_51, e_r_52]; rfl

theorem e_r_57 : kernelRun1_A.sl.r_57 c arg0 harg0 x0 = (cmpf .ogt (st119 (kernelRun1_A.sl.v1 c arg0 harg0 x0)).1 (nb0 (st119 (kernelRun1_A.sl.v1 c arg0 harg0 x0)).1)) := by
  show k1_pay825 kernelRun1_A.sl.v6 (kernelRun1_A.sl.r_49 c arg0 harg0 x0) (kernelRun1_A.sl.r_50 c arg0 harg0 x0) (kernelRun1_A.sl.r_51 c arg0 harg0 x0) (kernelRun1_A.sl.r_52 c arg0 harg0 x0) = _
  rw [e_r_49, e_r_50, e_r_51, e_r_52]; rfl

theorem e_r_58 : kernelRun1_A.sl.r_58 c arg0 harg0 x0 = (cmpf .oeq (st119 (kernelRun1_A.sl.v1 c arg0 harg0 x0)).1 (nb0 (st119 (kernelRun1_A.sl.v1 c arg0 harg0 x0)).1)) := by
  show k1_pay826 kernelRun1_A.sl.v6 (kernelRun1_A.sl.r_49 c arg0 harg0 x0) (kernelRun1_A.sl.r_50 c arg0 harg0 x0) (kernelRun1_A.sl.r_51 c arg0 harg0 x0) (kernelRun1_A.sl.r_52 c arg0 harg0 x0) = _
  rw [e_r_49, e_r_50, e_r_51, e_r_52]; rfl

theorem e_r_59 : kernelRun1_A.sl.r_59 c arg0 harg0 x0 = (st121 (kernelRun1_A.sl.v1 c arg0 harg0 x0)).1 := by
  show k1_pay834 kernelRun1_A.sl.v6 (kernelRun1_A.sl.r_53 c arg0 harg0 x0) (kernelRun1_A.sl.r_54 c arg0 harg0 x0) (k1_pay822 kernelRun1_A.sl.v6) (kernelRun1_A.sl.r_55 c arg0 harg0 x0) (kernelRun1_A.sl.r_56 c arg0 harg0 x0) (kernelRun1_A.sl.r_57 c arg0 harg0 x0) (kernelRun1_A.sl.r_58 c arg0 harg0 x0) = _
  rw [e_r_53, e_r_54, e_r_55, e_r_56, e_r_57, e_r_58]; rfl

theorem e_r_60 : kernelRun1_A.sl.r_60 c arg0 harg0 x0 = (st121 (kernelRun1_A.sl.v1 c arg0 harg0 x0)).2 := by
  show k1_pay835 kernelRun1_A.sl.v6 (kernelRun1_A.sl.r_53 c arg0 harg0 x0) (kernelRun1_A.sl.r_54 c arg0 harg0 x0) (k1_pay822 kernelRun1_A.sl.v6) (kernelRun1_A.sl.r_55 c arg0 harg0 x0) (kernelRun1_A.sl.r_56 c arg0 harg0 x0) (kernelRun1_A.sl.r_57 c arg0 harg0 x0) (kernelRun1_A.sl.r_58 c arg0 harg0 x0) = _
  rw [e_r_53, e_r_54, e_r_55, e_r_56, e_r_57, e_r_58]; rfl

theorem e_r_61 : kernelRun1_A.sl.r_61 c arg0 harg0 x0 = (extractStridedSlice S2x512x32 ![0, 0, 96] (st121 (kernelRun1_A.sl.v1 c arg0 harg0 x0)).1 slices_S2x512x128_o0_0_96_S2x512x32) := by
  show k1_pay837 kernelRun1_A.sl.v6 (kernelRun1_A.sl.r_53 c arg0 harg0 x0) (kernelRun1_A.sl.r_54 c arg0 harg0 x0) (k1_pay822 kernelRun1_A.sl.v6) (kernelRun1_A.sl.r_55 c arg0 harg0 x0) (kernelRun1_A.sl.r_56 c arg0 harg0 x0) (kernelRun1_A.sl.r_57 c arg0 harg0 x0) (kernelRun1_A.sl.r_58 c arg0 harg0 x0) = _
  rw [e_r_53, e_r_54, e_r_55, e_r_56, e_r_57, e_r_58]; rfl

theorem e_r_62 : kernelRun1_A.sl.r_62 c arg0 harg0 x0 = (extractStridedSlice S2x512x96 ![0, 0, 0] (st121 (kernelRun1_A.sl.v1 c arg0 harg0 x0)).1 slices_S2x512x128_o0_0_0_S2x512x96) := by
  show k1_pay838 kernelRun1_A.sl.v6 (kernelRun1_A.sl.r_53 c arg0 harg0 x0) (kernelRun1_A.sl.r_54 c arg0 harg0 x0) (k1_pay822 kernelRun1_A.sl.v6) (kernelRun1_A.sl.r_55 c arg0 harg0 x0) (kernelRun1_A.sl.r_56 c arg0 harg0 x0) (kernelRun1_A.sl.r_57 c arg0 harg0 x0) (kernelRun1_A.sl.r_58 c arg0 harg0 x0) = _
  rw [e_r_53, e_r_54, e_r_55, e_r_56, e_r_57, e_r_58]; rfl

theorem e_r_63 : kernelRun1_A.sl.r_63 c arg0 harg0 x0 = (st122 (kernelRun1_A.sl.v1 c arg0 harg0 x0)).1 := by
  show k1_pay842 kernelRun1_A.sl.v6 (kernelRun1_A.sl.r_59 c arg0 harg0 x0) (kernelRun1_A.sl.r_60 c arg0 harg0 x0) (k1_pay836 kernelRun1_A.sl.v6) (kernelRun1_A.sl.r_61 c arg0 harg0 x0) (kernelRun1_A.sl.r_62 c arg0 harg0 x0) = _
  rw [e_r_59, e_r_60, e_r_61, e_r_62]; rfl

theorem e_r_64 : kernelRun1_A.sl.r_64 c arg0 harg0 x0 = (st122 (kernelRun1_A.sl.v1 c arg0 harg0 x0)).2 := by
  show k1_pay843 kernelRun1_A.sl.v6 (kernelRun1_A.sl.r_59 c arg0 harg0 x0) (kernelRun1_A.sl.r_60 c arg0 harg0 x0) (k1_pay836 kernelRun1_A.sl.v6) (kernelRun1_A.sl.r_61 c arg0 harg0 x0) (kernelRun1_A.sl.r_62 c arg0 harg0 x0) = _
  rw [e_r_59, e_r_60, e_r_61, e_r_62]; rfl

theorem e_r_65 : kernelRun1_A.sl.r_65 c arg0 harg0 x0 = (nb13 (st122 (kernelRun1_A.sl.v1 c arg0 harg0 x0)).1) := by
  show k1_pay845 kernelRun1_A.sl.v6 (kernelRun1_A.sl.r_59 c arg0 harg0 x0) (kernelRun1_A.sl.r_60 c arg0 harg0 x0) (k1_pay836 kernelRun1_A.sl.v6) (kernelRun1_A.sl.r_61 c arg0 harg0 x0) (kernelRun1_A.sl.r_62 c arg0 harg0 x0) = _
  rw [e_r_59, e_r_60, e_r_61, e_r_62]; rfl

theorem e_r_66 : kernelRun1_A.sl.r_66 c arg0 harg0 x0 = (nb13 (st122 (kernelRun1_A.sl.v1 c arg0 harg0 x0)).2) := by
  show k1_pay846 kernelRun1_A.sl.v6 (kernelRun1_A.sl.r_59 c arg0 harg0 x0) (kernelRun1_A.sl.r_60 c arg0 harg0 x0) (k1_pay836 kernelRun1_A.sl.v6) (kernelRun1_A.sl.r_61 c arg0 harg0 x0) (kernelRun1_A.sl.r_62 c arg0 harg0 x0) = _
  rw [e_r_59, e_r_60, e_r_61, e_r_62]; rfl

theorem e_r_67 : kernelRun1_A.sl.r_67 c arg0 harg0 x0 = (better (st122 (kernelRun1_A.sl.v1 c arg0 harg0 x0)).1 (nb13 (st122 (kernelRun1_A.sl.v1 c arg0 harg0 x0)).1) (st122 (kernelRun1_A.sl.v1 c arg0 harg0 x0)).2 (nb13 (st122 (kernelRun1_A.sl.v1 c arg0 harg0 x0)).2)) := by
  show k1_pay847 kernelRun1_A.sl.v6 (kernelRun1_A.sl.r_59 c arg0 harg0 x0) (kernelRun1_A.sl.r_60 c arg0 harg0 x0) (k1_pay836 kernelRun1_A.sl.v6) (kernelRun1_A.sl.r_61 c arg0 harg0 x0) (kernelRun1_A.sl.r_62 c arg0 harg0 x0) = _
  rw [e_r_59, e_r_60, e_r_61, e_r_62]; rfl

theorem e_r_68 : kernelRun1_A.sl.r_68 c arg0 harg0 x0 = (st124 (kernelRun1_A.sl.v1 c arg0 harg0 x0)).1 := by
  show k1_pay856 kernelRun1_A.sl.v6 (kernelRun1_A.sl.r_63 c arg0 harg0 x0) (kernelRun1_A.sl.r_64 c arg0 harg0 x0) (k1_pay844 kernelRun1_A.sl.v6) (kernelRun1_A.sl.r_65 c arg0 harg0 x0) (kernelRun1_A.sl.r_66 c arg0 harg0 x0) (kernelRun1_A.sl.r_67 c arg0 harg0 x0) (k1_pay848 kernelRun1_A.sl.v6) = _
  rw [e_r_63, e_r_64, e_r_65, e_r_66, e_r_67]; rfl

theorem e_r_69 : kernelRun1_A.sl.r_69 c arg0 harg0 x0 = (st124 (kernelRun1_A.sl.v1 c arg0 harg0 x0)).2 := by
  show k1_pay857 kernelRun1_A.sl.v6 (kernelRun1_A.sl.r_63 c arg0 harg0 x0) (kernelRun1_A.sl.r_64 c arg0 harg0 x0) (k1_pay844 kernelRun1_A.sl.v6) (kernelRun1_A.sl.r_65 c arg0 harg0 x0) (kernelRun1_A.sl.r_66 c arg0 harg0 x0) (kernelRun1_A.sl.r_67 c arg0 harg0 x0) (k1_pay848 kernelRun1_A.sl.v6) = _
  rw [e_r_63, e_r_64, e_r_65, e_r_66, e_r_67]; rfl

theorem e_r_70 : kernelRun1_A.sl.r_70 c arg0 harg0 x0 = (nb11 (st124 (kernelRun1_A.sl.v1 c arg0 harg0 x0)).1) := by
  show k1_pay859 kernelRun1_A.sl.v6 (kernelRun1_A.sl.r_63 c arg0 harg0 x0) (kernelRun1_A.sl.r_64 c arg0 harg0 x0) (k1_pay844 kernelRun1_A.sl.v6) (kernelRun1_A.sl.r_65 c arg0 harg0 x0) (kernelRun1_A.sl.r_66 c arg0 harg0 x0) (kernelRun1_A.sl.r_67 c arg0 harg0 x0) (k1_pay848 kernelRun1_A.sl.v6) = _
  rw [e_r_63, e_r_64, e_r_65, e_r_66, e_r_67]; rfl

theorem e_r_71 : kernelRun1_A.sl.r_71 c arg0 harg0 x0 = (up11 (st124 (kernelRun1_A.sl.v1 c arg0 harg0 x0)).2) := by
  show k1_pay860 kernelRun1_A.sl.v6 (kernelRun1_A.sl.r_63 c arg0 harg0 x0) (kernelRun1_A.sl.r_64 c arg0 harg0 x0) (k1_pay844 kernelRun1_A.sl.v6) (kernelRun1_A.sl.r_65 c arg0 harg0 x0) (kernelRun1_A.sl.r_66 c arg0 harg0 x0) (kernelRun1_A.sl.r_67 c arg0 harg0 x0) (k1_pay848 kernelRun1_A.sl.v6) = _
  rw [e_r_63, e_r_64, e_r_65, e_r_66, e_r_67]; rfl

theorem e_r_72 : kernelRun1_A.sl.r_72 c arg0 harg0 x0 = (extractStridedSlice S2x512x124 ![0, 0, 4] (st124 (kernelRun1_A.sl.v1 c arg0 harg0 x0)).2 slices_S2x512x128_o0_0_4_S2x512x124) := by
  show k1_pay861 kernelRun1_A.sl.v6 (kernelRun1_A.sl.r_63 c arg0 harg0 x0) (kernelRun1_A.sl.r_64 c arg0 harg0 x0) (k1_pay844 kernelRun1_A.sl.v6) (kernelRun1_A.sl.r_65 c arg0 harg0 x0) (kernelRun1_A.sl.r_66 c arg0 harg0 x0) (kernelRun1_A.sl.r_67 c arg0 harg0 x0) (k1_pay848 kernelRun1_A.sl.v6) = _
  rw [e_r_63, e_r_64, e_r_65, e_r_66, e_r_67]; rfl

theorem e_r_73 : kernelRun1_A.sl.r_73 c arg0 harg0 x0 = (st126 (kernelRun1_A.sl.v1 c arg0 harg0 x0)).1 := by
  show k1_pay870 kernelRun1_A.sl.v6 (kernelRun1_A.sl.r_68 c arg0 harg0 x0) (kernelRun1_A.sl.r_69 c arg0 harg0 x0) (k1_pay858 kernelRun1_A.sl.v6) (kernelRun1_A.sl.r_70 c arg0 harg0 x0) (kernelRun1_A.sl.r_71 c arg0 harg0 x0) (kernelRun1_A.sl.r_72 c arg0 harg0 x0) = _
  rw [e_r_68, e_r_69, e_r_70, e_r_71, e_r_72]; rfl

theorem e_r_74 : kernelRun1_A.sl.r_74 c arg0 harg0 x0 = (st126 (kernelRun1_A.sl.v1 c arg0 harg0 x0)).2 := by
  show k1_pay871 kernelRun1_A.sl.v6 (kernelRun1_A.sl.r_68 c arg0 harg0 x0) (kernelRun1_A.sl.r_69 c arg0 harg0 x0) (k1_pay858 kernelRun1_A.sl.v6) (kernelRun1_A.sl.r_70 c arg0 harg0 x0) (kernelRun1_A.sl.r_71 c arg0 harg0 x0) (kernelRun1_A.sl.r_72 c arg0 harg0 x0) = _
  rw [e_r_68, e_r_69, e_r_70, e_r_71, e_r_72]; rfl

theorem e_r_75 : kernelRun1_A.sl.r_75 c arg0 harg0 x0 = (st127 (kernelRun1_A.sl.v1 c arg0 harg0 x0)).1 := by
  show k1_pay877 kernelRun1_A.sl.v6 (kernelRun1_A.sl.r_73 c arg0 harg0 x0) (kernelRun1_A.sl.r_74 c arg0 harg0 x0) (k1_pay872 kernelRun1_A.sl.v6) = _
  rw [e_r_73, e_r_74]; rfl

theorem e_r_76 : kernelRun1_A.sl.r_76 c arg0 harg0 x0 = (st127 (kernelRun1_A.sl.v1 c arg0 harg0 x0)).2 := by
  show k1_pay878 kernelRun1_A.sl.v6 (kernelRun1_A.sl.r_73 c arg0 harg0 x0) (kernelRun1_A.sl.r_74 c arg0 harg0 x0) (k1_pay872 kernelRun1_A.sl.v6) = _
  rw [e_r_73, e_r_74]; rfl

theorem e_r_77 : kernelRun1_A.sl.r_77 c arg0 harg0 x0 = (nb8 (st127 (kernelRun1_A.sl.v1 c arg0 harg0 x0)).1) := by
  show k1_pay880 kernelRun1_A.sl.v6 (kernelRun1_A.sl.r_73 c arg0 harg0 x0) (kernelRun1_A.sl.r_74 c arg0 harg0 x0) (k1_pay872 kernelRun1_A.sl.v6) = _
  rw [e_r_73, e_r_74]; rfl

theorem e_r_78 : kernelRun1_A.sl.r_78 c arg0 harg0 x0 = (nb8 (st127 (kernelRun1_A.sl.v1 c arg0 harg0 x0)).2) := by
  show k1_pay881 kernelRun1_A.sl.v6 (kernelRun1_A.sl.r_73 c arg0 harg0 x0) (kernelRun1_A.sl.r_74 c arg0 harg0 x0) (k1_pay872 kernelRun1_A.sl.v6) = _
  rw [e_r_73, e_r_74]; rfl

theorem e_r_79 : kernelRun1_A.sl.r_79 c arg0 harg0 x0 = (better (st127 (kernelRun1_A.sl.v1 c arg0 harg0 x0)).1 (nb8 (st127 (kernelRun1_A.sl.v1 c arg0 harg0 x0)).1) (st127 (kernelRun1_A.sl.v1 c arg0 harg0 x0)).2 (nb8 (st127 (kernelRun1_A.sl.v1 c arg0 harg0 x0)).2)) := by
  show k1_pay882 kernelRun1_A.sl.v6 (kernelRun1_A.sl.r_73 c arg0 harg0 x0) (kernelRun1_A.sl.r_74 c arg0 harg0 x0) (k1_pay872 kernelRun1_A.sl.v6) = _
  rw [e_r_73, e_r_74]; rfl

theorem e_r_80 : kernelRun1_A.sl.r_80 c arg0 harg0 x0 = (st129 (kernelRun1_A.sl.v1 c arg0 harg0 x0)).1 := by
  show k1_pay890 kernelRun1_A.sl.v6 (kernelRun1_A.sl.r_75 c arg0 harg0 x0) (kernelRun1_A.sl.r_76 c arg0 harg0 x0) (k1_pay879 kernelRun1_A.sl.v6) (kernelRun1_A.sl.r_77 c arg0 harg0 x0) (kernelRun1_A.sl.r_78 c arg0 harg0 x0) (kernelRun1_A.sl.r_79 c arg0 harg0 x0) 65536#32 = _
  rw [e_r_75, e_r_76, e_r_77, e_r_78, e_r_79]; rfl

theorem e_r_81 : kernelRun1_A.sl.r_81 c arg0 harg0 x0 = (st129 (kernelRun1_A.sl.v1 c arg0 harg0 x0)).2 := by
  show k1_pay891 kernelRun1_A.sl.v6 (kernelRun1_A.sl.r_75 c arg0 harg0 x0) (kernelRun1_A.sl.r_76 c arg0 harg0 x0) (k1_pay879 kernelRun1_A.sl.v6) (kernelRun1_A.sl.r_77 c arg0 harg0 x0) (kernelRun1_A.sl.r_78 c arg0 harg0 x0) (kernelRun1_A.sl.r_79 c arg0 harg0 x0) 65536#32 = _
  rw [e_r_75, e_r_76, e_r_77, e_r_78, e_r_79]; rfl

theorem e_r_82 : kernelRun1_A.sl.r_82 c arg0 harg0 x0 = (up6 (st129 (kernelRun1_A.sl.v1 c arg0 harg0 x0)).1) := by
  show k1_pay893 kernelRun1_A.sl.v6 (kernelRun1_A.sl.r_75 c arg0 harg0 x0) (kernelRun1_A.sl.r_76 c arg0 harg0 x0) (k1_pay879 kernelRun1_A.sl.v6) (kernelRun1_A.sl.r_77 c arg0 harg0 x0) (kernelRun1_A.sl.r_78 c arg0 harg0 x0) (kernelRun1_A.sl.r_79 c arg0 harg0 x0) 65536#32 = _
  rw [e_r_75, e_r_76, e_r_77, e_r_78, e_r_79]; rfl

theorem e_r_83 : kernelRun1_A.sl.r_83 c arg0 harg0 x0 = (dn6 (st129 (kernelRun1_A.sl.v1 c arg0 harg0 x0)).1) := by
  show k1_pay894 kernelRun1_A.sl.v6 (kernelRun1_A.sl.r_75 c arg0 harg0 x0) (kernelRun1_A.sl.r_76 c arg0 harg0 x0) (k1_pay879 kernelRun1_A.sl.v6) (kernelRun1_A.sl.r_77 c arg0 harg0 x0) (kernelRun1_A.sl.r_78 c arg0 harg0 x0) (kernelRun1_A.sl.r_79 c arg0 harg0 x0) 65536#32 = _
  rw [e_r_75, e_r_76, e_r_77, e_r_78, e_r_79]; rfl

theorem e_r_84 : kernelRun1_A.sl.r_84 c arg0 harg0 x0 = (st130 (kernelRun1_A.sl.v1 c arg0 harg0 x0)).1 := by
  show k1_pay898 kernelRun1_A.sl.v6 (kernelRun1_A.sl.r_80 c arg0 harg0 x0) (kernelRun1_A.sl.r_81 c arg0 harg0 x0) (k1_pay892 kernelRun1_A.sl.v6) (kernelRun1_A.sl.r_82 c arg0 harg0 x0) (kernelRun1_A.sl.r_83 c arg0 harg0 x0) = _
  rw [e_r_80, e_r_81, e_r_82, e_r_83]; rfl

theorem e_r_85 : kernelRun1_A.sl.r_85 c arg0 harg0 x0 = (st130 (kernelRun1_A.sl.v1 c arg0 harg0 x0)).2 := by
  show k1_pay899 kernelRun1_A.sl.v6 (kernelRun1_A.sl.r_80 c arg0 harg0 x0) (kernelRun1_A.sl.r_81 c arg0 harg0 x0) (k1_pay892 kernelRun1_A.sl.v6) (kernelRun1_A.sl.r_82 c arg0 harg0 x0) (kernelRun1_A.sl.r_83 c arg0 harg0 x0) = _
  rw [e_r_80, e_r_81, e_r_82, e_r_83]; rfl

theorem e_r_86 : kernelRun1_A.sl.r_86 c arg0 harg0 x0 = (nb5 (st130 (kernelRun1_A.sl.v1 c arg0 harg0 x0)).1) := by
  show k1_pay901 kernelRun1_A.sl.v6 (kernelRun1_A.sl.r_80 c arg0 harg0 x0) (kernelRun1_A.sl.r_81 c arg0 harg0 x0) (k1_pay892 kernelRun1_A.sl.v6) (kernelRun1_A.sl.r_82 c arg0 harg0 x0) (kernelRun1_A.sl.r_83 c arg0 harg0 x0) = _
  rw [e_r_80, e_r_81, e_r_82, e_r_83]; rfl

theorem e_r_87 : kernelRun1_A.sl.r_87 c arg0 harg0 x0 = (nb5 (st130 (kernelRun1_A.sl.v1 c arg0 harg0 x0)).2) := by
  show k1_pay902 kernelRun1_A.sl.v6 (kernelRun1_A.sl.r_80 c arg0 harg0 x0) (kernelRun1_A.sl.r_81 c arg0 harg0 x0) (k1_pay892 kernelRun1_A.sl.v6) (kernelRun1_A.sl.r_82 c arg0 harg0 x0) (kernelRun1_A.sl.r_83 c arg0 harg0 x0) = _
  rw [e_r_80, e_r_81, e_r_82, e_r_83]; rfl

theorem e_r_88 : kernelRun1_A.sl.r_88 c arg0 harg0 x0 = (keep (better (st130 (kernelRun1_A.sl.v1 c arg0 harg0 x0)).1 (nb5 (st130 (kernelRun1_A.sl.v1 c arg0 harg0 x0)).1) (st130 (kernelRun1_A.sl.v1 c arg0 harg0 x0)).2 (nb5 (st130 (kernelRun1_A.sl.v1 c arg0 harg0 x0)).2)) (xori (clr 65536#32) (bit 32#32))) := by
  show k1_pay903 kernelRun1_A.sl.v6 (kernelRun1_A.sl.r_80 c arg0 harg0 x0) (kernelRun1_A.sl.r_81 c arg0 harg0 x0) (k1_pay892 kernelRun1_A.sl.v6) (kernelRun1_A.sl.r_82 c arg0 harg0 x0) (kernelRun1_A.sl.r_83 c arg0 harg0 x0) = _
  rw [e_r_80, e_r_81, e_r_82, e_r_83]; rfl

theorem e_r_89 : kernelRun1_A.sl.r_89 c arg0 harg0 x0 = (st132 (kernelRun1_A.sl.v1 c arg0 harg0 x0)).1 := by
  show k1_pay910 kernelRun1_A.sl.v6 (kernelRun1_A.sl.r_84 c arg0 harg0 x0) (kernelRun1_A.sl.r_85 c arg0 harg0 x0) (kernelRun1_A.sl.r_86 c arg0 harg0 x0) (kernelRun1_A.sl.r_87 c arg0 harg0 x0) (kernelRun1_A.sl.r_88 c arg0 harg0 x0) = _
  rw [e_r_84, e_r_85, e_r_86, e_r_87, e_r_88]; rfl

theorem e_r_90 : kernelRun1_A.sl.r_90 c arg0 harg0 x0 = (st132 (kernelRun1_A.sl.v1 c arg0 harg0 x0)).2 := by
  show k1_pay911 kernelRun1_A.sl.v6 (kernelRun1_A.sl.r_84 c arg0 harg0 x0) (kernelRun1_A.sl.r_85 c arg0 harg0 x0) (kernelRun1_A.sl.r_86 c arg0 harg0 x0) (kernelRun1_A.sl.r_87 c arg0 harg0 x0) (kernelRun1_A.sl.r_88 c arg0 harg0 x0) = _
  rw [e_r_84, e_r_85, e_r_86, e_r_87, e_r_88]; rfl

theorem e_r_91 : kernelRun1_A.sl.r_91 c arg0 harg0 x0 = (nb3 (st132 (kernelRun1_A.sl.v1 c arg0 harg0 x0)).1) := by
  show k1_pay913 kernelRun1_A.sl.v6 (kernelRun1_A.sl.r_84 c arg0 harg0 x0) (kernelRun1_A.sl.r_85 c arg0 harg0 x0) (kernelRun1_A.sl.r_86 c arg0 harg0 x0) (kernelRun1_A.sl.r_87 c arg0 harg0 x0) (kernelRun1_A.sl.r_88 c arg0 harg0 x0) = _
  rw [e_r_84, e_r_85, e_r_86, e_r_87, e_r_88]; rfl

theorem e_r_92 : kernelRun1_A.sl.r_92 c arg0 harg0 x0 = (nb3 (st132 (kernelRun1_A.sl.v1 c arg0 harg0 x0)).2) := by
  show k1_pay914 kernelRun1_A.sl.v6 (kernelRun1_A.sl.r_84 c arg0 harg0 x0) (kernelRun1_A.sl.r_85 c arg0 harg0 x0) (kernelRun1_A.sl.r_86 c arg0 harg0 x0) (kernelRun1_A.sl.r_87 c arg0 harg0 x0) (kernelRun1_A.sl.r_88 c arg0 harg0 x0) = _
  rw [e_r_84, e_r_85, e_r_86, e_r_87, e_r_88]; rfl

theorem e_r_93 : kernelRun1_A.sl.r_93 c arg0 harg0 x0 = (cmpf .ogt (st132 (kernelRun1_A.sl.v1 c arg0 harg0 x0)).1 (nb3 (st132 (kernelRun1_A.sl.v1 c arg0 harg0 x0)).1)) := by
  show k1_pay915 kernelRun1_A.sl.v6 (kernelRun1_A.sl.r_84 c arg0 harg0 x0) (kernelRun1_A.sl.r_85 c arg0 harg0 x0) (kernelRun1_A.sl.r_86 c arg0 harg0 x0) (kernelRun1_A.sl.r_87 c arg0 harg0 x0) (kernelRun1_A.sl.r_88 c arg0 harg0 x0) = _
  rw [e_r_84, e_r_85, e_r_86, e_r_87, e_r_88]; rfl

theorem e_r_94 : kernelRun1_A.sl.r_94 c arg0 harg0 x0 = (st134 (kernelRun1_A.sl.v1 c arg0 harg0 x0)).1 := by
  show k1_pay923 kernelRun1_A.sl.v6 (kernelRun1_A.sl.r_89 c arg0 harg0 x0) (kernelRun1_A.sl.r_90 c arg0 harg0 x0) (k1_pay912 kernelRun1_A.sl.v6) (kernelRun1_A.sl.r_91 c arg0 harg0 x0) (kernelRun1_A.sl.r_92 c arg0 harg0 x0) (kernelRun1_A.sl.r_93 c arg0 harg0 x0) = _
  rw [e_r_89, e_r_90, e_r_91, e_r_92, e_r_93]; rfl

theorem e_r_95 : kernelRun1_A.sl.r_95 c arg0 harg0 x0 = (st134 (kernelRun1_A.sl.v1 c arg0 harg0 x0)).2 := by
  show k1_pay924 kernelRun1_A.sl.v6 (kernelRun1_A.sl.r_89 c arg0 harg0 x0) (kernelRun1_A.sl.r_90 c arg0 harg0 x0) (k1_pay912 kernelRun1_A.sl.v6) (kernelRun1_A.sl.r_91 c arg0 harg0 x0) (kernelRun1_A.sl.r_92 c arg0 harg0 x0) (kernelRun1_A.sl.r_93 c arg0 harg0 x0) = _
  rw [e_r_89, e_r_90, e_r_91, e_r_92, e_r_93]; rfl

theorem e_r_96 : kernelRun1_A.sl.r_96 c arg0 harg0 x0 = (extractStridedSlice S2x2x128 ![0, 510, 0] (st134 (kernelRun1_A.sl.v1 c arg0 harg0 x0)).1 slices_S2x512x128_o0_510_0_S2x2x128) := by
  show k1_pay926 kernelRun1_A.sl.v6 (kernelRun1_A.sl.r_89 c arg0 harg0 x0) (kernelRun1_A.sl.r_90 c arg0 harg0 x0) (k1_pay912 kernelRun1_A.sl.v6) (kernelRun1_A.sl.r_91 c arg0 harg0 x0) (kernelRun1_A.sl.r_92 c arg0 harg0 x0) (kernelRun1_A.sl.r_93 c arg0 harg0 x0) = _
  rw [e_r_89, e_r_90, e_r_91, e_r_92, e_r_93]; rfl

theorem e_r_97 : kernelRun1_A.sl.r_97 c arg0 harg0 x0 = (st135 (kernelRun1_A.sl.v1 c arg0 harg0 x0)).1 := by
  show k1_pay930 kernelRun1_A.sl.v6 (kernelRun1_A.sl.r_94 c arg0 harg0 x0) (kernelRun1_A.sl.r_95 c arg0 harg0 x0) (k1_pay925 kernelRun1_A.sl.v6) (kernelRun1_A.sl.r_96 c arg0 harg0 x0) = _
  rw [e_r_94, e_r_95, e_r_96]; rfl

theorem e_r_98 : kernelRun1_A.sl.r_98 c arg0 harg0 x0 = (st135 (kernelRun1_A.sl.v1 c arg0 harg0 x0)).2 := by
  show k1_pay931 kernelRun1_A.sl.v6 (kernelRun1_A.sl.r_94 c arg0 harg0 x0) (kernelRun1_A.sl.r_95 c arg0 harg0 x0) (k1_pay925 kernelRun1_A.sl.v6) (kernelRun1_A.sl.r_96 c arg0 harg0 x0) = _
  rw [e_r_94, e_r_95, e_r_96]; rfl

theorem e_r_99 : kernelRun1_A.sl.r_99 c arg0 harg0 x0 = (nb0 (st135 (kernelRun1_A.sl.v1 c arg0 harg0 x0)).1) := by
  show k1_pay933 kernelRun1_A.sl.v6 (kernelRun1_A.sl.r_94 c arg0 harg0 x0) (kernelRun1_A.sl.r_95 c arg0 harg0 x0) (k1_pay925 kernelRun1_A.sl.v6) (kernelRun1_A.sl.r_96 c arg0 harg0 x0) = _
  rw [e_r_94, e_r_95, e_r_96]; rfl

theorem e_r_100 : kernelRun1_A.sl.r_100 c arg0 harg0 x0 = (nb0 (st135 (kernelRun1_A.sl.v1 c arg0 harg0 x0)).2) := by
  show k1_pay934 kernelRun1_A.sl.v6 (kernelRun1_A.sl.r_94 c arg0 harg0 x0) (kernelRun1_A.sl.r_95 c arg0 harg0 x0) (k1_pay925 kernelRun1_A.sl.v6) (kernelRun1_A.sl.r_96 c arg0 harg0 x0) = _
  rw [e_r_94, e_r_95, e_r_96]; rfl

theorem e_r_101 : kernelRun1_A.sl.r_101 c arg0 harg0 x0 = (better (st135 (kernelRun1_A.sl.v1 c arg0 harg0 x0)).1 (nb0 (st135 (kernelRun1_A.sl.v1 c arg0 harg0 x0)).1) (st135 (kernelRun1_A.sl.v1 c arg0 harg0 x0)).2 (nb0 (st135 (kernelRun1_A.sl.v1 c arg0 harg0 x0)).2)) := by
  show k1_pay935 kernelRun1_A.sl.v6 (kernelRun1_A.sl.r_94 c arg0 harg0 x0) (kernelRun1_A.sl.r_95 c arg0 harg0 x0) (k1_pay925 kernelRun1_A.sl.v6) (kernelRun1_A.sl.r_96 c arg0 harg0 x0) = _
  rw [e_r_94, e_r_95, e_r_96]; rfl

theorem e_r_102 : kernelRun1_A.sl.r_102 c arg0 harg0 x0 = (subi (extractStridedSlice S2x512x32 ![0, 0, 0] (st136 (kernelRun1_A.sl.v1 c arg0 harg0 x0)).2 slices_S2x512x128_o0_0_0_S2x512x32) (muli (select (andi (cmpi .ne (subi (extui 32 (cmpi .sgt (extractStridedSlice S2x512x32 ![0, 0, 0] (st136 (kernelRun1_A.sl.v1 c arg0 harg0 x0)).2 slices_S2x512x128_o0_0_0_S2x512x32) (broadcast S2x512x32 0#32)) natLt_1_32) (extui 32 (cmpi .slt (extractStridedSlice S2x512x32 ![0, 0, 0] (st136 (kernelRun1_A.sl.v1 c arg0 harg0 x0)).2 slices_S2x512x128_o0_0_0_S2x512x32) (broadcast S2x512x32 0#32)) natLt_1_32)) (broadcast S2x512x32 (Scalar.subi (Scalar.extui (Scalar.cmpi .sgt 224#32 0#32)) (Scalar.extui (Scalar.cmpi .slt 224#32 0#32))))) (cmpi .ne (remsi (extractStridedSlice S2x512x32 ![0, 0, 0] (st136 (kernelRun1_A.sl.v1 c arg0 harg0 x0)).2 slices_S2x512x128_o0_0_0_S2x512x32) (broadcast S2x512x32 224#32)) (broadcast S2x512x32 0#32))) (subi (divsi (extractStridedSlice S2x512x32 ![0, 0, 0] (st136 (kernelRun1_A.sl.v1 c arg0 harg0 x0)).2 slices_S2x512x128_o0_0_0_S2x512x32) (broadcast S2x512x32 224#32)) (broadcast S2x512x32 1#32)) (divsi (extractStridedSlice S2x512x32 ![0, 0, 0] (st136 (kernelRun1_A.sl.v1 c arg0 harg0 x0)).2 slices_S2x512x128_o0_0_0_S2x512x32) (broadcast S2x512x32 224#32))) (broadcast S2x512x32 224#32))) := by
  show k1_pay942 (kernelRun1_A.sl.r_98 c arg0 harg0 x0) (k1_pay932 kernelRun1_A.sl.v6) (kernelRun1_A.sl.r_100 c arg0 harg0 x0) (kernelRun1_A.sl.r_101 c arg0 harg0 x0) (k1_pay936 kernelRun1_A.sl.v6) k1_pay937 = _
  rw [e_r_98, e_r_100, e_r_101]; rfl

theorem e_r_103 : kernelRun1_A.sl.r_103 c arg0 harg0 x0 = (mulf (sitofp .f32 (select (andi (cmpi .ne (subi (extui 32 (cmpi .sgt (extractStridedSlice S2x512x32 ![0, 0, 0] (st136 (kernelRun1_A.sl.v1 c arg0 harg0 x0)).2 slices_S2x512x128_o0_0_0_S2x512x32) (broadcast S2x512x32 0#32)) natLt_1_32) (extui 32 (cmpi .slt (extractStridedSlice S2x512x32 ![0, 0, 0] (st136 (kernelRun1_A.sl.v1 c arg0 harg0 x0)).2 slices_S2x512x128_o0_0_0_S2x512x32) (broadcast S2x512x32 0#32)) natLt_1_32)) (broadcast S2x512x32 (Scalar.subi (Scalar.extui (Scalar.cmpi .sgt 224#32 0#32)) (Scalar.extui (Scalar.cmpi .slt 224#32 0#32))))) (cmpi .ne (remsi (extractStridedSlice S2x512x32 ![0, 0, 0] (st136 (kernelRun1_A.sl.v1 c arg0 harg0 x0)).2 slices_S2x512x128_o0_0_0_S2x512x32) (broadcast S2x512x32 224#32)) (broadcast S2x512x32 0#32))) (subi (divsi (extractStridedSlice S2x512x32 ![0, 0, 0] (st136 (kernelRun1_A.sl.v1 c arg0 harg0 x0)).2 slices_S2x512x128_o0_0_0_S2x512x32) (broadcast S2x512x32 224#32)) (broadcast S2x512x32 1#32)) (divsi (extractStridedSlice S2x512x32 ![0, 0, 0] (st136 (kernelRun1_A.sl.v1 c arg0 harg0 x0)).2 slices_S2x512x128_o0_0_0_S2x512x32) (broadcast S2x512x32 224#32)))) (broadcast S2x512x32 (Named.named κ "step" 0x3C12F114#32))) := by
  show k1_pay943 (kernelRun1_A.sl.r_98 c arg0 harg0 x0) (k1_pay932 kernelRun1_A.sl.v6) (kernelRun1_A.sl.r_100 c arg0 harg0 x0) (kernelRun1_A.sl.r_101 c arg0 harg0 x0) (k1_pay936 kernelRun1_A.sl.v6) k1_pay937 = _
  rw [e_r_98, e_r_100, e_r_101]; rfl

end Cert.KernelIdeal.Sort
-- ==== Proof.OutVals.lean ====
module

public import proofs.«01_k».proof.Proof.ChainB
public import Idealize.ShloMosaic.Lib.Pipeline.ValueKit

/-! # What the sorting body leaves in its four result blocks -/

@[expose] public section

set_option maxRecDepth 16384

open Idealize.ShloMosaic Idealize.ShloMosaic.TcCoe Idealize.ShloMosaic.Tactic

namespace Cert.KernelIdeal.Sort

open Cert.KernelIdeal Cert.KernelIdeal.Gen

variable {F : FTy → Type} [FloatOps F] [Named F]

/-- The values kept of the sorted block. -/
noncomputable def topV (w : FVec F S2x512x128 .f32) : FVec F S2x512x32 .f32 :=
  extractStridedSlice S2x512x32 ![0, 0, 0] (st136 w).1 slices_S2x512x128_o0_0_0_S2x512x32

/-- The positions kept of the sorted block. -/
noncomputable def topI (w : FVec F S2x512x128 .f32) : IVec S2x512x32 32 :=
  extractStridedSlice S2x512x32 ![0, 0, 0] (st136 w).2 slices_S2x512x128_o0_0_0_S2x512x32

/-- The image row of a position: the quotient rounded down. -/
noncomputable def rowOf (ix : IVec S2x512x32 32) : IVec S2x512x32 32 :=
  select (andi (cmpi .ne (subi (extui 32 (cmpi .sgt ix (broadcast S2x512x32 0#32)) natLt_1_32)
        (extui 32 (cmpi .slt ix (broadcast S2x512x32 0#32)) natLt_1_32))
      (broadcast S2x512x32 (Scalar.subi (Scalar.extui (Scalar.cmpi .sgt 224#32 0#32))
        (Scalar.extui (Scalar.cmpi .slt 224#32 0#32)))))
      (cmpi .ne (remsi ix (broadcast S2x512x32 224#32)) (broadcast S2x512x32 0#32)))
    (subi (divsi ix (broadcast S2x512x32 224#32)) (broadcast S2x512x32 1#32))
    (divsi ix (broadcast S2x512x32 224#32))

/-- The image column of a position. -/
noncomputable def colOf (ix : IVec S2x512x32 32) : IVec S2x512x32 32 :=
  subi ix (muli (rowOf ix) (broadcast S2x512x32 224#32))

/-- The coordinate of a row or column number. -/
noncomputable def coordOf (i : IVec S2x512x32 32) : FVec F S2x512x32 .f32 :=
  subf (mulf (sitofp .f32 i) (broadcast S2x512x32 (Named.named κ "step" 0x3C12F114#32)))
    (broadcast S2x512x32 (Scalar.ofBits .f32 0x3F800000#32))

section
variable (c : Dev nD) (arg0 : Memref sig .tc .vmem S2x512x128 .f32) (harg0 : arg0.IsWhole)
  (arg1 : Memref sig .tc .vmem S2x512x32 .f32) (harg1 : arg1.IsWhole)
  (arg2 : Memref sig .tc .vmem S2x512x32 .i32) (harg2 : arg2.IsWhole)
  (arg3 : Memref sig .tc .vmem S2x512x32 .f32) (harg3 : arg3.IsWhole)
  (arg4 : Memref sig .tc .vmem S2x512x32 .f32) (harg4 : arg4.IsWhole)
  (arg5 : Memref sig .tc .vmem S8x128 .f32) (harg5 : arg5.IsWhole)
  (x0 : Vec F S2x512x128 .f32)

theorem zeros3 : (![0, 0, 0] : Fin 3 → ℕ) = fun _ => 0 := by
  funext i; fin_cases i <;> rfl

/-- What the body reads is its input block. -/
theorem read_in : kernelRun1_A.sl.v1 c arg0 harg0 x0 = x0 := by
  show shapeCast S2x512x128 (View.readAt (Elt F) arg0.view (Rect.unit ![0, 0, 0] S2x512x128.size _).toLoadRect (harg0.unread x0)) _ = x0
  refine (shapeCast_self _ _).trans ?_
  rw [View.readAt_eq_ld, harg0.read_unread, View.ld_unit_zero zeros3]

theorem out_1 : out1_A_1 c arg0 harg0 arg1 harg1 arg2 harg2 arg3 harg3 arg4 harg4 arg5 harg5 x0 = topV x0 := by
  unfold out1_A_1
  rw [View.read_writes_eq_canon _ _ _ (cover1_A_1 c arg0 harg0 arg1 harg1 arg2 harg2 arg3 harg3 arg4 harg4 arg5 harg5 x0)]
  refine (View.canon_unit_zero zeros3 _ (Val := Elt F) (S := S2x512x32) (e := .f32) (k1_pay939 (kernelRun1_A.sl.r_97 c arg0 harg0 x0) (k1_pay932 kernelRun1_A.sl.v6) (kernelRun1_A.sl.r_99 c arg0 harg0 x0) (kernelRun1_A.sl.r_101 c arg0 harg0 x0) (k1_pay936 kernelRun1_A.sl.v6) k1_pay937)).trans ?_
  rw [e_r_97, e_r_99, e_r_101, read_in]
  rfl

theorem out_2 : out1_A_2 c arg0 harg0 arg1 harg1 arg2 harg2 arg3 harg3 arg4 harg4 arg5 harg5 x0 = topI x0 := by
  unfold out1_A_2
  rw [View.read_writes_eq_canon _ _ _ (cover1_A_2 c arg0 harg0 arg1 harg1 arg2 harg2 arg3 harg3 arg4 harg4 arg5 harg5 x0)]
  refine (View.canon_unit_zero zeros3 _ (Val := Elt F) (S := S2x512x32) (e := .i32) (k1_pay940 (kernelRun1_A.sl.r_98 c arg0 harg0 x0) (k1_pay932 kernelRun1_A.sl.v6) (kernelRun1_A.sl.r_100 c arg0 harg0 x0) (kernelRun1_A.sl.r_101 c arg0 harg0 x0) (k1_pay936 kernelRun1_A.sl.v6) k1_pay937)).trans ?_
  rw [e_r_98, e_r_100, e_r_101, read_in]
  rfl

theorem out_3 : out1_A_3 c arg0 harg0 arg1 harg1 arg2 harg2 arg3 harg3 arg4 harg4 arg5 harg5 x0 = coordOf (rowOf (topI x0)) := by
  unfold out1_A_3
  rw [View.read_writes_eq_canon _ _ _ (cover1_A_3 c arg0 harg0 arg1 harg1 arg2 harg2 arg3 harg3 arg4 harg4 arg5 harg5 x0)]
  refine (View.canon_unit_zero zeros3 _ (Val := Elt F) (S := S2x512x32) (e := .f32) (k1_pay1 (kernelRun1_A.sl.r_103 c arg0 harg0 x0) k1_pay944)).trans ?_
  rw [e_r_103, read_in]
  rfl

theorem out_4 : out1_A_4 c arg0 harg0 arg1 harg1 arg2 harg2 arg3 harg3 arg4 harg4 arg5 harg5 x0 = coordOf (colOf (topI x0)) := by
  unfold out1_A_4
  rw [View.read_writes_eq_canon _ _ _ (cover1_A_4 c arg0 harg0 arg1 harg1 arg2 harg2 arg3 harg3 arg4 harg4 arg5 harg5 x0)]
  refine (View.canon_unit_zero zeros3 _ (Val := Elt F) (S := S2x512x32) (e := .f32) (k1_pay2 (F := F) (kernelRun1_A.sl.r_102 c arg0 harg0 x0))).trans ?_
  rw [e_r_102, read_in]
  rfl
end

theorem at_0 : ∀ t : Fin cfg1.N, win1_0.index t 0 = 0 ∧ win1_0.index t 1 = 0 ∧ win1_0.index t 2 = 0 := by decide +kernel

theorem at_1 : ∀ t : Fin cfg1.N, win1_1.index t 0 = 0 ∧ win1_1.index t 1 = 0 ∧ win1_1.index t 2 = 0 := by decide +kernel

theorem at_2 : ∀ t : Fin cfg1.N, win1_2.index t 0 = 0 ∧ win1_2.index t 1 = 0 ∧ win1_2.index t 2 = 0 := by decide +kernel

theorem at_3 : ∀ t : Fin cfg1.N, win1_3.index t 0 = 0 ∧ win1_3.index t 1 = 0 ∧ win1_3.index t 2 = 0 := by decide +kernel

theorem at_4 : ∀ t : Fin cfg1.N, win1_4.index t 0 = 0 ∧ win1_4.index t 1 = 0 ∧ win1_4.index t 2 = 0 := by decide +kernel

section
variable (V : (c : Dev nD) → (b : Ref sig .tc) → Buf (Elt F) ((c : Thread nD τ).loc b)) (c : Dev nD)

/-- The one input block is the whole padded array. -/
theorem block_in (t : Fin cfg1.N) : iblk1 V c 0 t = V c (Pipeline.arrRef spec1 0) := by
  funext y
  unfold iblk1
  blk_simp
  blk_ext [at_0 t]

theorem arr_1 : (dat1 V c).arrAt 1 cfg1.N = topV (V c (Pipeline.arrRef spec1 0)) := by
  refine (dat1 V c).arrAt_eq_of_covers 1 _ (by decide +kernel) fun t hf y => ?_
  blk_simp
  rw [after1_1]
  unfold outsAt1
  dsimp only
  rw [out_1, block_in]
  blk_ext [at_1 t]

theorem arr_2 : (dat1 V c).arrAt 2 cfg1.N = topI (V c (Pipeline.arrRef spec1 0)) := by
  refine (dat1 V c).arrAt_eq_of_covers 2 _ (by decide +kernel) fun t hf y => ?_
  blk_simp
  rw [after1_2]
  unfold outsAt1
  dsimp only
  rw [out_2, block_in]
  blk_ext [at_2 t]

theorem arr_3 : (dat1 V c).arrAt 3 cfg1.N = coordOf (rowOf (topI (V c (Pipeline.arrRef spec1 0)))) := by
  refine (dat1 V c).arrAt_eq_of_covers 3 _ (by decide +kernel) fun t hf y => ?_
  blk_simp
  rw [after1_3]
  unfold outsAt1
  dsimp only
  rw [out_3, block_in]
  blk_ext [at_3 t]

theorem arr_4 : (dat1 V c).arrAt 4 cfg1.N = coordOf (colOf (topI (V c (Pipeline.arrRef spec1 0)))) := by
  refine (dat1 V c).arrAt_eq_of_covers 4 _ (by decide +kernel) fun t hf y => ?_
  blk_simp
  rw [after1_4]
  unfold outsAt1
  dsimp only
  rw [out_4, block_in]
  blk_ext [at_4 t]
end

end Cert.KernelIdeal.Sort
-- ==== Proof.Partner.lean ====
module

public import proofs.«01_k».proof.Proof.Stage
public import Idealize.ShloMosaic.Lib.Pipeline.Value
public import Idealize.ShloMosaic.Lib.Pointwise.Index
public import Idealize.ShloMosaic.Lib.SortNet.Bitonic

/-! # Positions and partners

Position `q` of batch `b` is row `q % 512` of lane `q / 512`. The moved arrays, chosen by the bit of
the position, hold at every position the entry of its partner. -/

@[expose] public section

open Idealize.ShloMosaic Idealize.ShloMosaic.SortNet

namespace Cert.KernelIdeal.Sort

open Cert.KernelIdeal Cert.KernelIdeal.Gen

/-- Where position `q` of batch `b` lies. -/
def ixAt (b : Fin 2) (q : Fin (2 ^ 16)) : S2x512x128.Idx :=
  ix3 b (⟨q.val % 512, Nat.mod_lt _ (by norm_num)⟩ : Fin 512) (⟨q.val / 512, by have := q.isLt; omega⟩ : Fin 128)

theorem pos_ixAt (b : Fin 2) (q : Fin (2 ^ 16)) : pos (ixAt b q) = BitVec.ofNat 32 q.val := by
  have hq := q.isLt
  show BitVec.ofNat 32 (0 * 128 + q.val / 512) * BitVec.ofNat 32 512 + BitVec.ofNat 32 (0 * 512 + q.val % 512)
    = BitVec.ofNat 32 q.val
  apply BitVec.eq_of_toNat_eq
  simp only [BitVec.toNat_add, BitVec.toNat_mul, BitVec.toNat_ofNat]
  omega

theorem ini_ixAt (b : Fin 2) (q : Fin (2 ^ 16)) :
    kernelRun1_A.sl.v9 (ixAt b q) = BitVec.ofNat 32 (q.val % 512 * 128 + q.val / 512) := by
  have hq := q.isLt
  show BitVec.ofNat 32 (0 * 512 + q.val % 512) * BitVec.ofNat 32 128 + BitVec.ofNat 32 (0 * 128 + q.val / 512) = _
  apply BitVec.eq_of_toNat_eq
  simp only [BitVec.toNat_add, BitVec.toNat_mul, BitVec.toNat_ofNat]
  omega

theorem and_word (q s : Nat) (hq : q < 2 ^ 16) (hs : s ≤ 16) :
    (BitVec.ofNat 32 q &&& BitVec.ofNat 32 (2 ^ s) = 0#32) ↔ q &&& 2 ^ s = 0 := by
  have h2 : 2 ^ s < 2 ^ 32 := Nat.pow_lt_pow_right (by norm_num) (by omega)
  rw [← BitVec.toNat_inj]
  simp only [BitVec.toNat_and, BitVec.toNat_ofNat]
  rw [Nat.mod_eq_of_lt (show q < 2 ^ 32 by omega), Nat.mod_eq_of_lt h2]

theorem bit_ixAt (s : Nat) (hs : s ≤ 16) (b : Fin 2) (q : Fin (2 ^ 16)) :
    bit (BitVec.ofNat 32 (2 ^ s)) (ixAt b q) = BitVec.ofBool (!decide (q.val &&& 2 ^ s = 0)) := by
  show IntOp.cmpi .ne (pos (ixAt b q) &&& BitVec.ofNat 32 (2 ^ s)) 0#32 = _
  rw [pos_ixAt]
  have h := and_word q.val s q.isLt hs
  by_cases hc : q.val &&& 2 ^ s = 0
  · rw [h.mpr hc, hc]; rfl
  · have h' := fun e => hc (h.mp e)
    simp only [IntOp.cmpi, hc, decide_false, Bool.not_false, bne_iff_ne.mpr h']

theorem clr_ixAt (s : Nat) (hs : s ≤ 16) (b : Fin 2) (q : Fin (2 ^ 16)) :
    clr (BitVec.ofNat 32 (2 ^ s)) (ixAt b q) = BitVec.ofBool (decide (q.val &&& 2 ^ s = 0)) := by
  show IntOp.cmpi .eq (pos (ixAt b q) &&& BitVec.ofNat 32 (2 ^ s)) 0#32 = _
  rw [pos_ixAt]
  have h := and_word q.val s q.isLt hs
  by_cases hc : q.val &&& 2 ^ s = 0
  · rw [h.mpr hc, hc]; rfl
  · have h' := fun e => hc (h.mp e)
    simp only [IntOp.cmpi, hc, decide_false, beq_eq_false_iff_ne.mpr h']

section Move
variable {α : Type} (v : S2x512x128.Idx → α)

/-- Rows moved forward by `d`: row `r + d` holds row `r`. -/
theorem rows_up (d e : Nat) (h1 : S2x512x128.Slices ![0, e, 0] ⟨3, ![2, d, 128]⟩) (h2 : S2x512x128.Slices ![0, 0, 0] ⟨3, ![2, e, 128]⟩)
    (h3 : Shape.Concatenates [⟨3, ![2, d, 128]⟩, ⟨3, ![2, e, 128]⟩] S2x512x128 1) (hde : d + e = 512)
    (b : Fin 2) (r r' : Fin 512) (l : Fin 128) (hr : r'.val + d = r.val) :
    concatenate S2x512x128 1 [⟨⟨3, ![2, d, 128]⟩, extractStridedSlice _ ![0, e, 0] v h1⟩,
      ⟨⟨3, ![2, e, 128]⟩, extractStridedSlice _ ![0, 0, 0] v h2⟩] h3 (ix3 b r l) = v (ix3 b r' l) := by
  rw [concatenate_pair_apply_right (s₁ := ⟨3, ![2, d, 128]⟩) (s₂ := ⟨3, ![2, e, 128]⟩) 1 _ _ h3 (ix3 b r l) rfl rfl
    (ix3 b (⟨r'.val, by have := r.isLt; omega⟩ : Fin e) l) ?_ ?_]
  · refine extractStridedSlice_apply _ _ _ _ _ fun a => ?_
    match a with
    | ⟨0, _⟩ => exact (Nat.zero_add _).symm
    | ⟨1, _⟩ => exact (Nat.zero_add _).symm
    | ⟨2, _⟩ => exact (Nat.zero_add _).symm
  · intro a ha
    match a with
    | ⟨0, _⟩ => rfl
    | ⟨1, _⟩ => exact absurd rfl ha
    | ⟨2, _⟩ => rfl
  · exact hr

/-- Rows moved back by `d`: row `r` holds row `r + d`. -/
theorem rows_dn (d e : Nat) (h1 : S2x512x128.Slices ![0, d, 0] ⟨3, ![2, e, 128]⟩) (h2 : S2x512x128.Slices ![0, 0, 0] ⟨3, ![2, d, 128]⟩)
    (h3 : Shape.Concatenates [⟨3, ![2, e, 128]⟩, ⟨3, ![2, d, 128]⟩] S2x512x128 1) (hde : d + e = 512)
    (b : Fin 2) (r r' : Fin 512) (l : Fin 128) (hr : r'.val = r.val + d) :
    concatenate S2x512x128 1 [⟨⟨3, ![2, e, 128]⟩, extractStridedSlice _ ![0, d, 0] v h1⟩,
      ⟨⟨3, ![2, d, 128]⟩, extractStridedSlice _ ![0, 0, 0] v h2⟩] h3 (ix3 b r l) = v (ix3 b r' l) := by
  rw [concatenate_pair_apply_left (s₁ := ⟨3, ![2, e, 128]⟩) (s₂ := ⟨3, ![2, d, 128]⟩) 1 _ _ h3 (ix3 b r l) rfl
    (ix3 b (⟨r.val, by have := r'.isLt; omega⟩ : Fin e) l) ?_]
  · refine extractStridedSlice_apply _ _ _ _ _ fun a => ?_
    match a with
    | ⟨0, _⟩ => exact (Nat.zero_add _).symm
    | ⟨1, _⟩ => exact hr.trans (Nat.add_comm _ _)
    | ⟨2, _⟩ => exact (Nat.zero_add _).symm
  · intro a
    match a with
    | ⟨0, _⟩ => rfl
    | ⟨1, _⟩ => rfl
    | ⟨2, _⟩ => rfl

/-- Lanes moved forward by `d`. -/
theorem lanes_up (d e : Nat) (h1 : S2x512x128.Slices ![0, 0, e] ⟨3, ![2, 512, d]⟩) (h2 : S2x512x128.Slices ![0, 0, 0] ⟨3, ![2, 512, e]⟩)
    (h3 : Shape.Concatenates [⟨3, ![2, 512, d]⟩, ⟨3, ![2, 512, e]⟩] S2x512x128 2) (hde : d + e = 128)
    (b : Fin 2) (r : Fin 512) (l l' : Fin 128) (hl : l'.val + d = l.val) :
    concatenate S2x512x128 2 [⟨⟨3, ![2, 512, d]⟩, extractStridedSlice _ ![0, 0, e] v h1⟩,
      ⟨⟨3, ![2, 512, e]⟩, extractStridedSlice _ ![0, 0, 0] v h2⟩] h3 (ix3 b r l) = v (ix3 b r l') := by
  rw [concatenate_pair_apply_right (s₁ := ⟨3, ![2, 512, d]⟩) (s₂ := ⟨3, ![2, 512, e]⟩) 2 _ _ h3 (ix3 b r l) rfl rfl
    (ix3 b r (⟨l'.val, by have := l.isLt; omega⟩ : Fin e)) ?_ ?_]
  · refine extractStridedSlice_apply _ _ _ _ _ fun a => ?_
    match a with
    | ⟨0, _⟩ => exact (Nat.zero_add _).symm
    | ⟨1, _⟩ => exact (Nat.zero_add _).symm
    | ⟨2, _⟩ => exact (Nat.zero_add _).symm
  · intro a ha
    match a with
    | ⟨0, _⟩ => rfl
    | ⟨1, _⟩ => rfl
    | ⟨2, _⟩ => exact absurd rfl ha
  · exact hl

/-- Lanes moved back by `d`. -/
theorem lanes_dn (d e : Nat) (h1 : S2x512x128.Slices ![0, 0, d] ⟨3, ![2, 512, e]⟩) (h2 : S2x512x128.Slices ![0, 0, 0] ⟨3, ![2, 512, d]⟩)
    (h3 : Shape.Concatenates [⟨3, ![2, 512, e]⟩, ⟨3, ![2, 512, d]⟩] S2x512x128 2) (hde : d + e = 128)
    (b : Fin 2) (r : Fin 512) (l l' : Fin 128) (hl : l'.val = l.val + d) :
    concatenate S2x512x128 2 [⟨⟨3, ![2, 512, e]⟩, extractStridedSlice _ ![0, 0, d] v h1⟩,
      ⟨⟨3, ![2, 512, d]⟩, extractStridedSlice _ ![0, 0, 0] v h2⟩] h3 (ix3 b r l) = v (ix3 b r l') := by
  rw [concatenate_pair_apply_left (s₁ := ⟨3, ![2, 512, e]⟩) (s₂ := ⟨3, ![2, 512, d]⟩) 2 _ _ h3 (ix3 b r l) rfl
    (ix3 b r (⟨l.val, by have := l'.isLt; omega⟩ : Fin e)) ?_]
  · refine extractStridedSlice_apply _ _ _ _ _ fun a => ?_
    match a with
    | ⟨0, _⟩ => exact (Nat.zero_add _).symm
    | ⟨1, _⟩ => exact (Nat.zero_add _).symm
    | ⟨2, _⟩ => exact hl.trans (Nat.add_comm _ _)
  · intro a
    match a with
    | ⟨0, _⟩ => rfl
    | ⟨1, _⟩ => rfl
    | ⟨2, _⟩ => rfl

/-- A bit below the ninth is a bit of the row. -/
theorem row_bit (q s : Nat) (hs : s < 9) : q &&& 2 ^ s = 0 ↔ q % 512 &&& 2 ^ s = 0 := by
  rw [and_two_pow_eq_zero_iff_testBit, and_two_pow_eq_zero_iff_testBit, show (512 : Nat) = 2 ^ 9 from rfl,
    Nat.testBit_mod_two_pow]
  simp [hs]

/-- What a set bit says of a number. -/
theorem le_of_bit (r s : Nat) (h : ¬ r &&& 2 ^ s = 0) : 2 ^ s ≤ r := by
  by_contra hlt
  rw [not_le] at hlt
  exact h ((and_two_pow_eq_zero_iff_testBit r s).mpr (Nat.testBit_lt_two_pow hlt))

/-- What a clear bit says of a number. -/
theorem add_lt_of_clear (r s p : Nat) (hs : s < p) (hr : r < 2 ^ p) (h : r &&& 2 ^ s = 0) : r + 2 ^ s < 2 ^ p := by
  rw [← xor_two_pow_of_clear r s h]
  exact Nat.xor_lt_two_pow hr (Nat.pow_lt_pow_right (by norm_num) hs)

/-- Partners at a distance below 512: two arrays of moved rows, chosen by the bit. -/
theorem nb_rows (s : Nat) (hs : s < 9) (up dn : S2x512x128.Idx → α)
    (hup : ∀ (b : Fin 2) (r r' : Fin 512) (l : Fin 128), r'.val + 2 ^ s = r.val → up (ix3 b r l) = v (ix3 b r' l))
    (hdn : ∀ (b : Fin 2) (r r' : Fin 512) (l : Fin 128), r'.val = r.val + 2 ^ s → dn (ix3 b r l) = v (ix3 b r' l))
    (b : Fin 2) (q : Fin (2 ^ 16)) :
    select (bit (BitVec.ofNat 32 (2 ^ s))) up dn (ixAt b q) = v (ixAt b (partner 16 s q)) := by
  have hq := q.isLt
  have hp : 2 ^ s * 2 ^ (9 - s) = 512 := by rw [← pow_add, show s + (9 - s) = 9 by omega]; norm_num
  have hd := Nat.two_pow_pos s
  show (if bit _ (ixAt b q) = 1#1 then up (ixAt b q) else dn (ixAt b q)) = _
  rw [bit_ixAt s (by omega)]
  by_cases hc : q.val &&& 2 ^ s = 0
  · have e := partner_val_of_clear (p := 16) (s := s) (by omega) q hc
    have hlt := add_lt_of_clear (q.val % 512) s 9 hs (Nat.mod_lt _ (by norm_num)) ((row_bit _ s hs).mp hc)
    rw [show (2 : Nat) ^ 9 = 512 from rfl] at hlt
    rw [if_neg (by simp [hc])]
    have e1 : ixAt b (partner 16 s q) = ix3 b (⟨q.val % 512 + 2 ^ s, hlt⟩ : Fin 512) (⟨q.val / 512, by omega⟩ : Fin 128) := by
      unfold ixAt
      congr 1 <;> apply Fin.ext <;> simp only [e] <;> omega
    rw [e1]
    exact hdn _ _ _ _ rfl
  · have e := partner_val_of_set (p := 16) (s := s) (by omega) q hc
    have hle := le_of_bit (q.val % 512) s (fun h => hc ((row_bit _ s hs).mpr h))
    rw [if_pos (by simp [hc])]
    have e1 : ixAt b (partner 16 s q) = ix3 b (⟨q.val % 512 - 2 ^ s, by omega⟩ : Fin 512) (⟨q.val / 512, by omega⟩ : Fin 128) := by
      unfold ixAt
      congr 1 <;> apply Fin.ext <;> simp only [e] <;> omega
    rw [e1]
    exact hup _ _ _ _ (Nat.sub_add_cancel hle)

/-- Partners at a distance from 512 on: two arrays of moved lanes, chosen by the bit. -/
theorem nb_lanes (s : Nat) (hs : s < 7) (up dn : S2x512x128.Idx → α)
    (hup : ∀ (b : Fin 2) (r : Fin 512) (l l' : Fin 128), l'.val + 2 ^ s = l.val → up (ix3 b r l) = v (ix3 b r l'))
    (hdn : ∀ (b : Fin 2) (r : Fin 512) (l l' : Fin 128), l'.val = l.val + 2 ^ s → dn (ix3 b r l) = v (ix3 b r l'))
    (b : Fin 2) (q : Fin (2 ^ 16)) :
    select (bit (BitVec.ofNat 32 (2 ^ (s + 9)))) up dn (ixAt b q) = v (ixAt b (partner 16 (s + 9) q)) := by
  have hq := q.isLt
  have hd := Nat.two_pow_pos s
  have hp : (2 : Nat) ^ (s + 9) = 2 ^ s * 512 := by rw [pow_add]; norm_num
  have hb : q.val &&& 2 ^ (s + 9) = 0 ↔ q.val / 512 &&& 2 ^ s = 0 := by
    rw [and_two_pow_eq_zero_iff_testBit, and_two_pow_eq_zero_iff_testBit, show (512 : Nat) = 2 ^ 9 from rfl,
      Nat.testBit_div_two_pow]
  show (if bit _ (ixAt b q) = 1#1 then up (ixAt b q) else dn (ixAt b q)) = _
  rw [bit_ixAt (s + 9) (by omega)]
  by_cases hc : q.val &&& 2 ^ (s + 9) = 0
  · have e := partner_val_of_clear (p := 16) (s := s + 9) (by omega) q hc
    have hlt := add_lt_of_clear (q.val / 512) s 7 hs (by omega) (hb.mp hc)
    rw [show (2 : Nat) ^ 7 = 128 from rfl] at hlt
    rw [if_neg (by simp [hc])]
    have e1 : ixAt b (partner 16 (s + 9) q) = ix3 b (⟨q.val % 512, by omega⟩ : Fin 512) (⟨q.val / 512 + 2 ^ s, hlt⟩ : Fin 128) := by
      unfold ixAt
      congr 1 <;> apply Fin.ext <;> simp only [e, hp] <;> omega
    rw [e1]
    exact hdn _ _ _ _ rfl
  · have e := partner_val_of_set (p := 16) (s := s + 9) (by omega) q hc
    have hle := le_of_bit (q.val / 512) s (fun h => hc (hb.mpr h))
    rw [if_pos (by simp [hc])]
    have e1 : ixAt b (partner 16 (s + 9) q) = ix3 b (⟨q.val % 512, by omega⟩ : Fin 512) (⟨q.val / 512 - 2 ^ s, by omega⟩ : Fin 128) := by
      unfold ixAt
      congr 1 <;> apply Fin.ext <;> simp only [e, hp] <;> omega
    rw [e1]
    exact hup _ _ _ _ (Nat.sub_add_cancel hle)

theorem nb0_ixAt (b : Fin 2) (q : Fin (2 ^ 16)) : nb0 v (ixAt b q) = v (ixAt b (partner 16 0 q)) :=
  nb_rows v 0 (by norm_num) (up0 v) (dn0 v)
    (fun b r r' l h => rows_up v 1 511 _ _ _ rfl b r r' l h) (fun b r r' l h => rows_dn v 1 511 _ _ _ rfl b r r' l h) b q

theorem nb1_ixAt (b : Fin 2) (q : Fin (2 ^ 16)) : nb1 v (ixAt b q) = v (ixAt b (partner 16 1 q)) :=
  nb_rows v 1 (by norm_num) (up1 v) (dn1 v)
    (fun b r r' l h => rows_up v 2 510 _ _ _ rfl b r r' l h) (fun b r r' l h => rows_dn v 2 510 _ _ _ rfl b r r' l h) b q

theorem nb2_ixAt (b : Fin 2) (q : Fin (2 ^ 16)) : nb2 v (ixAt b q) = v (ixAt b (partner 16 2 q)) :=
  nb_rows v 2 (by norm_num) (up2 v) (dn2 v)
    (fun b r r' l h => rows_up v 4 508 _ _ _ rfl b r r' l h) (fun b r r' l h => rows_dn v 4 508 _ _ _ rfl b r r' l h) b q

theorem nb3_ixAt (b : Fin 2) (q : Fin (2 ^ 16)) : nb3 v (ixAt b q) = v (ixAt b (partner 16 3 q)) :=
  nb_rows v 3 (by norm_num) (up3 v) (dn3 v)
    (fun b r r' l h => rows_up v 8 504 _ _ _ rfl b r r' l h) (fun b r r' l h => rows_dn v 8 504 _ _ _ rfl b r r' l h) b q

theorem nb4_ixAt (b : Fin 2) (q : Fin (2 ^ 16)) : nb4 v (ixAt b q) = v (ixAt b (partner 16 4 q)) :=
  nb_rows v 4 (by norm_num) (up4 v) (dn4 v)
    (fun b r r' l h => rows_up v 16 496 _ _ _ rfl b r r' l h) (fun b r r' l h => rows_dn v 16 496 _ _ _ rfl b r r' l h) b q

theorem nb5_ixAt (b : Fin 2) (q : Fin (2 ^ 16)) : nb5 v (ixAt b q) = v (ixAt b (partner 16 5 q)) :=
  nb_rows v 5 (by norm_num) (up5 v) (dn5 v)
    (fun b r r' l h => rows_up v 32 480 _ _ _ rfl b r r' l h) (fun b r r' l h => rows_dn v 32 480 _ _ _ rfl b r r' l h) b q

theorem nb6_ixAt (b : Fin 2) (q : Fin (2 ^ 16)) : nb6 v (ixAt b q) = v (ixAt b (partner 16 6 q)) :=
  nb_rows v 6 (by norm_num) (up6 v) (dn6 v)
    (fun b r r' l h => rows_up v 64 448 _ _ _ rfl b r r' l h) (fun b r r' l h => rows_dn v 64 448 _ _ _ rfl b r r' l h) b q

theorem nb7_ixAt (b : Fin 2) (q : Fin (2 ^ 16)) : nb7 v (ixAt b q) = v (ixAt b (partner 16 7 q)) :=
  nb_rows v 7 (by norm_num) (up7 v) (dn7 v)
    (fun b r r' l h => rows_up v 128 384 _ _ _ rfl b r r' l h) (fun b r r' l h => rows_dn v 128 384 _ _ _ rfl b r r' l h) b q

theorem nb8_ixAt (b : Fin 2) (q : Fin (2 ^ 16)) : nb8 v (ixAt b q) = v (ixAt b (partner 16 8 q)) :=
  nb_rows v 8 (by norm_num) (up8 v) (dn8 v)
    (fun b r r' l h => rows_up v 256 256 _ _ _ rfl b r r' l h) (fun b r r' l h => rows_dn v 256 256 _ _ _ rfl b r r' l h) b q

theorem nb9_ixAt (b : Fin 2) (q : Fin (2 ^ 16)) : nb9 v (ixAt b q) = v (ixAt b (partner 16 9 q)) :=
  nb_lanes v 0 (by norm_num) (up9 v) (dn9 v)
    (fun b r l l' h => lanes_up v 1 127 _ _ _ rfl b r l l' h) (fun b r l l' h => lanes_dn v 1 127 _ _ _ rfl b r l l' h) b q

theorem nb10_ixAt (b : Fin 2) (q : Fin (2 ^ 16)) : nb10 v (ixAt b q) = v (ixAt b (partner 16 10 q)) :=
  nb_lanes v 1 (by norm_num) (up10 v) (dn10 v)
    (fun b r l l' h => lanes_up v 2 126 _ _ _ rfl b r l l' h) (fun b r l l' h => lanes_dn v 2 126 _ _ _ rfl b r l l' h) b q

theorem nb11_ixAt (b : Fin 2) (q : Fin (2 ^ 16)) : nb11 v (ixAt b q) = v (ixAt b (partner 16 11 q)) :=
  nb_lanes v 2 (by norm_num) (up11 v) (dn11 v)
    (fun b r l l' h => lanes_up v 4 124 _ _ _ rfl b r l l' h) (fun b r l l' h => lanes_dn v 4 124 _ _ _ rfl b r l l' h) b q

theorem nb12_ixAt (b : Fin 2) (q : Fin (2 ^ 16)) : nb12 v (ixAt b q) = v (ixAt b (partner 16 12 q)) :=
  nb_lanes v 3 (by norm_num) (up12 v) (dn12 v)
    (fun b r l l' h => lanes_up v 8 120 _ _ _ rfl b r l l' h) (fun b r l l' h => lanes_dn v 8 120 _ _ _ rfl b r l l' h) b q

theorem nb13_ixAt (b : Fin 2) (q : Fin (2 ^ 16)) : nb13 v (ixAt b q) = v (ixAt b (partner 16 13 q)) :=
  nb_lanes v 4 (by norm_num) (up13 v) (dn13 v)
    (fun b r l l' h => lanes_up v 16 112 _ _ _ rfl b r l l' h) (fun b r l l' h => lanes_dn v 16 112 _ _ _ rfl b r l l' h) b q

theorem nb14_ixAt (b : Fin 2) (q : Fin (2 ^ 16)) : nb14 v (ixAt b q) = v (ixAt b (partner 16 14 q)) :=
  nb_lanes v 5 (by norm_num) (up14 v) (dn14 v)
    (fun b r l l' h => lanes_up v 32 96 _ _ _ rfl b r l l' h) (fun b r l l' h => lanes_dn v 32 96 _ _ _ rfl b r l l' h) b q

theorem nb15_ixAt (b : Fin 2) (q : Fin (2 ^ 16)) : nb15 v (ixAt b q) = v (ixAt b (partner 16 15 q)) :=
  nb_lanes v 6 (by norm_num) (up15 v) (dn15 v)
    (fun b r l l' h => lanes_up v 64 64 _ _ _ rfl b r l l' h) (fun b r l l' h => lanes_dn v 64 64 _ _ _ rfl b r l l' h) b q

end Move

end Cert.KernelIdeal.Sort
-- ==== Proof.TopNet.lean ====
module

public import Idealize.ShloMosaic.Lib.SortPrefix
public import Idealize.ShloMosaic.Lib.SortNet.Sorts
public import Mathlib.Data.EReal.Basic
public import Mathlib.Data.Prod.Lex

/-! # What the sorting network leaves in front

A list of `n` keys is filled up to a power of two with entries below all of them and sorted
downwards by the network, ties by the smaller index. The first `n` entries are then the ones a
stable sort of the keys gives. -/

@[expose] public section

open Idealize.ShloMosaic Idealize.ShloMosaic.SortNet

namespace Cert.TopNet

/-- A stable sort does not notice when ties are broken by position. -/
theorem stableSort_refine {n : Nat} (R R' : Fin n → Fin n → Bool) (h : ∀ a b, a < b → R b a = R' b a)
    (l : List (Fin n)) (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_refine {n : Nat} (R R' : Fin n → Fin n → Bool) (h : ∀ a b, a < b → R b a = R' b a) :
    sortedFrom R = sortedFrom R' := by
  have e : sortPositions n R = sortPositions n R' :=
    stableSort_refine R R' h _ (List.pairwise_lt_finRange n)
  funext k
  unfold sortedFrom
  simp only [List.get_eq_getElem]
  congr 1

/-- One entry: the value, greater first, and the index, smaller first. -/
abbrev Entry := EReal ×ₗ ℤᵒᵈ

/-- The entry of a value and an index. -/
def entry (x : EReal) (i : ℤ) : Entry := toLex (x, OrderDual.toDual i)

theorem entry_lt (x y : EReal) (i j : ℤ) : entry x i < entry y j ↔ x < y ∨ (x = y ∧ j < i) := by
  unfold entry
  rw [Prod.Lex.toLex_lt_toLex]
  simp [OrderDual.toDual_lt_toDual]

theorem entry_inj {x y : EReal} {i j : ℤ} (h : entry x i = entry y j) : x = y ∧ i = j := by
  unfold entry at h
  have := toLex.injective h
  simpa using this

/-- An index set of `n` elements that holds with each position all earlier ones holds the first `n`. -/
theorem mem_of_lower {m n : Nat} (S : Finset (Fin m)) (hc : S.card = n)
    (hlow : ∀ i j, j ≤ i → i ∈ S → j ∈ S) (i : Fin m) (hi : i.val < n) : i ∈ S := by
  by_contra hni
  have hsub : S ⊆ Finset.Iio i := by
    intro j hj
    rw [Finset.mem_Iio]
    by_contra hji
    exact hni (hlow j i (not_lt.mp hji) hj)
  have := Finset.card_le_card hsub
  rw [hc, Fin.card_Iio] at this
  omega

variable {n p : Nat}

/-- The first `n` entries of the sorted list come from the stable sort of the keys. -/
theorem net_prefix (hn : n ≤ 2 ^ p) (key : Fin n → EReal) (pad : EReal) (hpad : ∀ i, pad < key i)
    (ix : Equiv.Perm (Fin (2 ^ p))) (e : Fin (2 ^ p) → Entry)
    (he : ∀ q, e q = entry (if h : (ix q).val < n then key ⟨(ix q).val, h⟩ else pad) ((ix q).val : ℤ))
    (i : Fin n) :
    Network.apply (sortNet p true) e (i.castLE hn)
      = entry (key (sortedFrom (fun a b => decide (key b < key a)) i))
          ((sortedFrom (fun a b => decide (key b < key a)) i).val : ℤ) := by
  obtain ⟨σ, hσ⟩ := Network.exists_perm (sortNet p true) e
  have hanti := sortNet_apply_antitone p e
  rw [hσ] at hanti ⊢
  have ho : ∀ q, (e ∘ σ) q = entry (if h : (ix (σ q)).val < n then key ⟨(ix (σ q)).val, h⟩ else pad) ((ix (σ q)).val : ℤ) :=
    fun q => he (σ q)
  -- the first `n` positions hold the keys
  have hfront : ∀ q : Fin (2 ^ p), q.val < n → (ix (σ q)).val < n := by
    intro q hq
    have hmem := mem_of_lower (n := n) (Finset.univ.filter fun q : Fin (2 ^ p) => (ix (σ q)).val < n) ?_ ?_ q hq
    · simpa using hmem
    · have : (Finset.univ.filter fun q : Fin (2 ^ p) => (ix (σ q)).val < n)
          = (Finset.univ.filter fun q : Fin (2 ^ p) => q.val < n).map (σ.trans ix).symm.toEmbedding := by
        ext q
        simp only [Finset.mem_filter, Finset.mem_univ, true_and, Finset.mem_map_equiv, Equiv.symm_symm,
          Equiv.trans_apply]
      rw [this, Finset.card_map, Fin.card_filter_val_lt]
      omega
    · intro a b hba ha
      simp only [Finset.mem_filter, Finset.mem_univ, true_and] at ha ⊢
      by_contra hb
      have h1 := hanti hba
      rw [ho, ho, dif_pos ha, dif_neg hb] at h1
      exact absurd ((entry_lt _ _ _ _).mpr (Or.inl (hpad ⟨(ix (σ a)).val, ha⟩))) (not_lt.mpr h1)
  let τ : Fin n → Fin n := fun j => ⟨(ix (σ (j.castLE hn))).val, hfront _ j.isLt⟩
  have hτ : Function.Injective τ := by
    intro a b hab
    have h1 : ix (σ (a.castLE hn)) = ix (σ (b.castLE hn)) := Fin.ext (Fin.mk.inj_iff.mp hab)
    have h2 := σ.injective (ix.injective h1)
    exact Fin.castLE_injective hn h2
  have hoτ : ∀ j : Fin n, (e ∘ σ) (j.castLE hn) = entry (key (τ j)) ((τ j).val : ℤ) := by
    intro j
    rw [ho, dif_pos (hfront _ j.isLt)]
  let B : Fin n → Fin n → Bool := fun k k' =>
    decide (key k' < key k) || (decide (key k = key k') && decide (k < k'))
  have hB : StrictTotalBefore B :=
    StrictTotalBefore.of_key_then_position (fun x y : EReal => decide (y < x)) key (fun a => by simp)
      (fun a b c hab hbc => by
        simp only [decide_eq_true_eq] at hab hbc ⊢
        exact lt_trans hbc hab)
      (fun a b => by
        simp only [decide_eq_true_eq]
        rcases lt_trichotomy a b with h | h | h
        · exact Or.inr (Or.inr h)
        · exact Or.inr (Or.inl h)
        · exact Or.inl h)
  have hsort : sortedFrom (fun a b => decide (key b < key a)) = sortedFrom B :=
    sortedFrom_refine _ _ fun a b hab => by
      have : ¬ b < a := not_lt.mpr (le_of_lt hab)
      simp [B, this]
  have hpre := hB.sortedFrom_eq_of_prefix (le_refl n) τ hτ
    (fun a b hab => by
      have h1 : (e ∘ σ) (b.castLE hn) ≤ (e ∘ σ) (a.castLE hn) :=
        hanti (show a.castLE hn ≤ b.castLE hn from le_of_lt hab)
      rw [hoτ, hoτ] at h1
      by_contra hne
      have hbt : B (τ b) (τ a) = true := by simpa using hne
      simp only [B, Bool.or_eq_true, Bool.and_eq_true, decide_eq_true_eq] at hbt
      refine absurd ((entry_lt _ _ _ _).mpr ?_) (not_lt.mpr h1)
      rcases hbt with h | ⟨h, h'⟩
      · exact Or.inl h
      · exact Or.inr ⟨h.symm, by exact_mod_cast h'⟩)
    (fun a q hq => by
      obtain ⟨j, hj⟩ := (Finite.injective_iff_surjective.mp hτ) q
      exact absurd hj (hq j)) i
  rw [hoτ, hsort, ← hpre]
  rfl

end Cert.TopNet
-- ==== Proof.Chain.lean ====
module

public import proofs.«01_k».proof.Proof.Partner
public import proofs.«01_k».proof.Proof.TopNet

/-! # The 136 stages are the sorting network -/

@[expose] public section

open Idealize.ShloMosaic Idealize.ShloMosaic.SortNet

namespace Cert.KernelIdeal.Sort

open Cert.KernelIdeal Cert.KernelIdeal.Gen Cert.TopNet

/-- The entries of one batch, in the order of the positions. -/
def ent (p : St Ideal) (b : Fin 2) (q : Fin (2 ^ 16)) : Entry := entry (p.1 (ixAt b q)) (p.2 (ixAt b q)).toInt

/-- Where a stage of level `l` moves the greater entry to the lower position. -/
abbrev low (l : Nat) : Fin (2 ^ 16) → Bool := fun i => decide (i.val &&& 2 ^ (l + 1) = 0) == true

theorem better_apply (v pv : FVec Ideal S2x512x128 .f32) (ix pix : IVec S2x512x128 32) (i : S2x512x128.Idx) :
    better v pv ix pix i = BitVec.ofBool (decide (entry (pv i) (pix i).toInt < entry (v i) (ix i).toInt)) := by
  show IntOp.ori (Ideal.cmp .ogt (v i) (pv i)) (IntOp.andi (Ideal.cmp .oeq (v i) (pv i)) (IntOp.cmpi .slt (ix i) (pix i))) = _
  have e : (entry (pv i) (pix i).toInt < entry (v i) (ix i).toInt) ↔ (pv i < v i ∨ (v i = pv i ∧ (ix i).toInt < (pix i).toInt)) := by
    rw [entry_lt]
    exact or_congr Iff.rfl (and_congr eq_comm Iff.rfl)
  show IntOp.ori (BitVec.ofBool (decide (pv i < v i))) (IntOp.andi (BitVec.ofBool (decide (v i = pv i)))
    (BitVec.ofBool (decide ((ix i).toInt < (pix i).toInt)))) = _
  simp only [e]
  unfold IntOp.ori IntOp.andi
  by_cases h1 : pv i < v i <;> by_cases h2 : v i = pv i <;> by_cases h3 : (ix i).toInt < (pix i).toInt <;>
    simp [h1, h2, h3]

theorem select_keep (a m : Bool) :
    ((BitVec.ofBool a ^^^ BitVec.ofBool m) ^^^ 1#1 = 1#1) ↔ a = m := by
  cases a <;> cases m <;> decide

/-- One stage: the entries are those of the network's stage. -/
theorem ent_step (s l : Nat) (hs : s ≤ l) (hl : l < 16) (p q : St Ideal) (b : Fin 2)
    (h1 : ∀ j, q.1 (ixAt b j) = p.1 (ixAt b (partner 16 s j))) (h2 : ∀ j, q.2 (ixAt b j) = p.2 (ixAt b (partner 16 s j))) :
    ent (step (BitVec.ofNat 32 (2 ^ s)) (BitVec.ofNat 32 (2 ^ (l + 1))) p q) b
      = Network.apply (stage 16 s (low l)) (ent p b) := by
  have hs16 : s < 16 := by omega
  have e : stage 16 s (low l)
      = stage 16 s (fun i => xor (decide (i.val &&& 2 ^ (l + 1) = 0)) (!decide (i.val &&& 2 ^ s = 0))) :=
    stage_congr fun i hi => by simp [hi]
  rw [e]
  funext j
  rw [apply_stage_select hs16]
  · have hb : better p.1 q.1 p.2 q.2 (ixAt b j) = BitVec.ofBool (decide (ent p b (partner 16 s j) < ent p b j)) := by
      rw [better_apply, h1, h2]; rfl
    have hm : IntOp.xori (clr (BitVec.ofNat 32 (2 ^ (l + 1))) (ixAt b j)) (bit (BitVec.ofNat 32 (2 ^ s)) (ixAt b j))
        = BitVec.ofBool (xor (decide (j.val &&& 2 ^ (l + 1) = 0)) (!decide (j.val &&& 2 ^ s = 0))) := by
      rw [clr_ixAt (l + 1) (by omega), bit_ixAt s (by omega)]
      cases decide (j.val &&& 2 ^ (l + 1) = 0) <;> cases decide (j.val &&& 2 ^ s = 0) <;> rfl
    have hk : (keep (better p.1 q.1 p.2 q.2) (xori (clr (BitVec.ofNat 32 (2 ^ (l + 1)))) (bit (BitVec.ofNat 32 (2 ^ s)))) (ixAt b j) = 1#1)
        ↔ decide (ent p b (partner 16 s j) < ent p b j)
          = xor (decide (j.val &&& 2 ^ (l + 1) = 0)) (!decide (j.val &&& 2 ^ s = 0)) := by
      rw [← select_keep, ← hb, ← hm]; rfl
    show entry (if _ = 1#1 then p.1 (ixAt b j) else q.1 (ixAt b j)) (if _ = 1#1 then p.2 (ixAt b j) else q.2 (ixAt b j)).toInt = _
    rw [h1, h2]
    by_cases hc : decide (ent p b (partner 16 s j) < ent p b j)
          = xor (decide (j.val &&& 2 ^ (l + 1) = 0)) (!decide (j.val &&& 2 ^ s = 0))
    · rw [if_pos (hk.mpr hc), if_pos (hk.mpr hc), if_pos hc]; rfl
    · rw [if_neg (fun h => hc (hk.mp h)), if_neg (fun h => hc (hk.mp h)), if_neg hc]; rfl
  · intro j
    have f1 : (partner 16 s j).val.testBit (l + 1) = j.val.testBit (l + 1) := by
      rw [partner_val hs16, Nat.testBit_xor, Nat.testBit_two_pow_of_ne (by omega), Bool.xor_false]
    have f2 : (partner 16 s j).val.testBit s = !j.val.testBit s := by
      rw [partner_val hs16, Nat.testBit_xor, Nat.testBit_two_pow_self, Bool.xor_true]
    have g : ∀ x t : Nat, decide (x &&& 2 ^ t = 0) = !x.testBit t := fun x t => by

      have h := and_two_pow_eq_zero_iff_testBit x t
      by_cases hx : x &&& 2 ^ t = 0
      · rw [h.mp hx]; exact decide_eq_true hx
      · rw [Bool.eq_true_of_not_eq_false fun hf => hx (h.mpr hf)]; exact decide_eq_false hx
    simp only [g, f1, f2]
    cases j.val.testBit (l + 1) <;> cases j.val.testBit s <;> rfl

variable (w : FVec Ideal S2x512x128 .f32) (b : Fin 2)

theorem ent_1 : ent (st1 w) b = Network.apply (stage 16 0 (low 0)) (ent (st0 w) b) :=
  ent_step 0 0 (by norm_num) (by norm_num) (st0 w) _ b (nb0_ixAt _ b) (nb0_ixAt _ b)

theorem ent_2 : ent (st2 w) b = Network.apply (stage 16 1 (low 1)) (ent (st1 w) b) :=
  ent_step 1 1 (by norm_num) (by norm_num) (st1 w) _ b (nb1_ixAt _ b) (nb1_ixAt _ b)

theorem ent_3 : ent (st3 w) b = Network.apply (stage 16 0 (low 1)) (ent (st2 w) b) :=
  ent_step 0 1 (by norm_num) (by norm_num) (st2 w) _ b (nb0_ixAt _ b) (nb0_ixAt _ b)

theorem ent_4 : ent (st4 w) b = Network.apply (stage 16 2 (low 2)) (ent (st3 w) b) :=
  ent_step 2 2 (by norm_num) (by norm_num) (st3 w) _ b (nb2_ixAt _ b) (nb2_ixAt _ b)

theorem ent_5 : ent (st5 w) b = Network.apply (stage 16 1 (low 2)) (ent (st4 w) b) :=
  ent_step 1 2 (by norm_num) (by norm_num) (st4 w) _ b (nb1_ixAt _ b) (nb1_ixAt _ b)

theorem ent_6 : ent (st6 w) b = Network.apply (stage 16 0 (low 2)) (ent (st5 w) b) :=
  ent_step 0 2 (by norm_num) (by norm_num) (st5 w) _ b (nb0_ixAt _ b) (nb0_ixAt _ b)

theorem ent_7 : ent (st7 w) b = Network.apply (stage 16 3 (low 3)) (ent (st6 w) b) :=
  ent_step 3 3 (by norm_num) (by norm_num) (st6 w) _ b (nb3_ixAt _ b) (nb3_ixAt _ b)

theorem ent_8 : ent (st8 w) b = Network.apply (stage 16 2 (low 3)) (ent (st7 w) b) :=
  ent_step 2 3 (by norm_num) (by norm_num) (st7 w) _ b (nb2_ixAt _ b) (nb2_ixAt _ b)

theorem ent_9 : ent (st9 w) b = Network.apply (stage 16 1 (low 3)) (ent (st8 w) b) :=
  ent_step 1 3 (by norm_num) (by norm_num) (st8 w) _ b (nb1_ixAt _ b) (nb1_ixAt _ b)

theorem ent_10 : ent (st10 w) b = Network.apply (stage 16 0 (low 3)) (ent (st9 w) b) :=
  ent_step 0 3 (by norm_num) (by norm_num) (st9 w) _ b (nb0_ixAt _ b) (nb0_ixAt _ b)

theorem ent_11 : ent (st11 w) b = Network.apply (stage 16 4 (low 4)) (ent (st10 w) b) :=
  ent_step 4 4 (by norm_num) (by norm_num) (st10 w) _ b (nb4_ixAt _ b) (nb4_ixAt _ b)

theorem ent_12 : ent (st12 w) b = Network.apply (stage 16 3 (low 4)) (ent (st11 w) b) :=
  ent_step 3 4 (by norm_num) (by norm_num) (st11 w) _ b (nb3_ixAt _ b) (nb3_ixAt _ b)

theorem ent_13 : ent (st13 w) b = Network.apply (stage 16 2 (low 4)) (ent (st12 w) b) :=
  ent_step 2 4 (by norm_num) (by norm_num) (st12 w) _ b (nb2_ixAt _ b) (nb2_ixAt _ b)

theorem ent_14 : ent (st14 w) b = Network.apply (stage 16 1 (low 4)) (ent (st13 w) b) :=
  ent_step 1 4 (by norm_num) (by norm_num) (st13 w) _ b (nb1_ixAt _ b) (nb1_ixAt _ b)

theorem ent_15 : ent (st15 w) b = Network.apply (stage 16 0 (low 4)) (ent (st14 w) b) :=
  ent_step 0 4 (by norm_num) (by norm_num) (st14 w) _ b (nb0_ixAt _ b) (nb0_ixAt _ b)

theorem ent_16 : ent (st16 w) b = Network.apply (stage 16 5 (low 5)) (ent (st15 w) b) :=
  ent_step 5 5 (by norm_num) (by norm_num) (st15 w) _ b (nb5_ixAt _ b) (nb5_ixAt _ b)

theorem ent_17 : ent (st17 w) b = Network.apply (stage 16 4 (low 5)) (ent (st16 w) b) :=
  ent_step 4 5 (by norm_num) (by norm_num) (st16 w) _ b (nb4_ixAt _ b) (nb4_ixAt _ b)

theorem ent_18 : ent (st18 w) b = Network.apply (stage 16 3 (low 5)) (ent (st17 w) b) :=
  ent_step 3 5 (by norm_num) (by norm_num) (st17 w) _ b (nb3_ixAt _ b) (nb3_ixAt _ b)

theorem ent_19 : ent (st19 w) b = Network.apply (stage 16 2 (low 5)) (ent (st18 w) b) :=
  ent_step 2 5 (by norm_num) (by norm_num) (st18 w) _ b (nb2_ixAt _ b) (nb2_ixAt _ b)

theorem ent_20 : ent (st20 w) b = Network.apply (stage 16 1 (low 5)) (ent (st19 w) b) :=
  ent_step 1 5 (by norm_num) (by norm_num) (st19 w) _ b (nb1_ixAt _ b) (nb1_ixAt _ b)

theorem ent_21 : ent (st21 w) b = Network.apply (stage 16 0 (low 5)) (ent (st20 w) b) :=
  ent_step 0 5 (by norm_num) (by norm_num) (st20 w) _ b (nb0_ixAt _ b) (nb0_ixAt _ b)

theorem ent_22 : ent (st22 w) b = Network.apply (stage 16 6 (low 6)) (ent (st21 w) b) :=
  ent_step 6 6 (by norm_num) (by norm_num) (st21 w) _ b (nb6_ixAt _ b) (nb6_ixAt _ b)

theorem ent_23 : ent (st23 w) b = Network.apply (stage 16 5 (low 6)) (ent (st22 w) b) :=
  ent_step 5 6 (by norm_num) (by norm_num) (st22 w) _ b (nb5_ixAt _ b) (nb5_ixAt _ b)

theorem ent_24 : ent (st24 w) b = Network.apply (stage 16 4 (low 6)) (ent (st23 w) b) :=
  ent_step 4 6 (by norm_num) (by norm_num) (st23 w) _ b (nb4_ixAt _ b) (nb4_ixAt _ b)

theorem ent_25 : ent (st25 w) b = Network.apply (stage 16 3 (low 6)) (ent (st24 w) b) :=
  ent_step 3 6 (by norm_num) (by norm_num) (st24 w) _ b (nb3_ixAt _ b) (nb3_ixAt _ b)

theorem ent_26 : ent (st26 w) b = Network.apply (stage 16 2 (low 6)) (ent (st25 w) b) :=
  ent_step 2 6 (by norm_num) (by norm_num) (st25 w) _ b (nb2_ixAt _ b) (nb2_ixAt _ b)

theorem ent_27 : ent (st27 w) b = Network.apply (stage 16 1 (low 6)) (ent (st26 w) b) :=
  ent_step 1 6 (by norm_num) (by norm_num) (st26 w) _ b (nb1_ixAt _ b) (nb1_ixAt _ b)

theorem ent_28 : ent (st28 w) b = Network.apply (stage 16 0 (low 6)) (ent (st27 w) b) :=
  ent_step 0 6 (by norm_num) (by norm_num) (st27 w) _ b (nb0_ixAt _ b) (nb0_ixAt _ b)

theorem ent_29 : ent (st29 w) b = Network.apply (stage 16 7 (low 7)) (ent (st28 w) b) :=
  ent_step 7 7 (by norm_num) (by norm_num) (st28 w) _ b (nb7_ixAt _ b) (nb7_ixAt _ b)

theorem ent_30 : ent (st30 w) b = Network.apply (stage 16 6 (low 7)) (ent (st29 w) b) :=
  ent_step 6 7 (by norm_num) (by norm_num) (st29 w) _ b (nb6_ixAt _ b) (nb6_ixAt _ b)

theorem ent_31 : ent (st31 w) b = Network.apply (stage 16 5 (low 7)) (ent (st30 w) b) :=
  ent_step 5 7 (by norm_num) (by norm_num) (st30 w) _ b (nb5_ixAt _ b) (nb5_ixAt _ b)

theorem ent_32 : ent (st32 w) b = Network.apply (stage 16 4 (low 7)) (ent (st31 w) b) :=
  ent_step 4 7 (by norm_num) (by norm_num) (st31 w) _ b (nb4_ixAt _ b) (nb4_ixAt _ b)

theorem ent_33 : ent (st33 w) b = Network.apply (stage 16 3 (low 7)) (ent (st32 w) b) :=
  ent_step 3 7 (by norm_num) (by norm_num) (st32 w) _ b (nb3_ixAt _ b) (nb3_ixAt _ b)

theorem ent_34 : ent (st34 w) b = Network.apply (stage 16 2 (low 7)) (ent (st33 w) b) :=
  ent_step 2 7 (by norm_num) (by norm_num) (st33 w) _ b (nb2_ixAt _ b) (nb2_ixAt _ b)

theorem ent_35 : ent (st35 w) b = Network.apply (stage 16 1 (low 7)) (ent (st34 w) b) :=
  ent_step 1 7 (by norm_num) (by norm_num) (st34 w) _ b (nb1_ixAt _ b) (nb1_ixAt _ b)

theorem ent_36 : ent (st36 w) b = Network.apply (stage 16 0 (low 7)) (ent (st35 w) b) :=
  ent_step 0 7 (by norm_num) (by norm_num) (st35 w) _ b (nb0_ixAt _ b) (nb0_ixAt _ b)

theorem ent_37 : ent (st37 w) b = Network.apply (stage 16 8 (low 8)) (ent (st36 w) b) :=
  ent_step 8 8 (by norm_num) (by norm_num) (st36 w) _ b (nb8_ixAt _ b) (nb8_ixAt _ b)

theorem ent_38 : ent (st38 w) b = Network.apply (stage 16 7 (low 8)) (ent (st37 w) b) :=
  ent_step 7 8 (by norm_num) (by norm_num) (st37 w) _ b (nb7_ixAt _ b) (nb7_ixAt _ b)

theorem ent_39 : ent (st39 w) b = Network.apply (stage 16 6 (low 8)) (ent (st38 w) b) :=
  ent_step 6 8 (by norm_num) (by norm_num) (st38 w) _ b (nb6_ixAt _ b) (nb6_ixAt _ b)

theorem ent_40 : ent (st40 w) b = Network.apply (stage 16 5 (low 8)) (ent (st39 w) b) :=
  ent_step 5 8 (by norm_num) (by norm_num) (st39 w) _ b (nb5_ixAt _ b) (nb5_ixAt _ b)

theorem ent_41 : ent (st41 w) b = Network.apply (stage 16 4 (low 8)) (ent (st40 w) b) :=
  ent_step 4 8 (by norm_num) (by norm_num) (st40 w) _ b (nb4_ixAt _ b) (nb4_ixAt _ b)

theorem ent_42 : ent (st42 w) b = Network.apply (stage 16 3 (low 8)) (ent (st41 w) b) :=
  ent_step 3 8 (by norm_num) (by norm_num) (st41 w) _ b (nb3_ixAt _ b) (nb3_ixAt _ b)

theorem ent_43 : ent (st43 w) b = Network.apply (stage 16 2 (low 8)) (ent (st42 w) b) :=
  ent_step 2 8 (by norm_num) (by norm_num) (st42 w) _ b (nb2_ixAt _ b) (nb2_ixAt _ b)

theorem ent_44 : ent (st44 w) b = Network.apply (stage 16 1 (low 8)) (ent (st43 w) b) :=
  ent_step 1 8 (by norm_num) (by norm_num) (st43 w) _ b (nb1_ixAt _ b) (nb1_ixAt _ b)

theorem ent_45 : ent (st45 w) b = Network.apply (stage 16 0 (low 8)) (ent (st44 w) b) :=
  ent_step 0 8 (by norm_num) (by norm_num) (st44 w) _ b (nb0_ixAt _ b) (nb0_ixAt _ b)

theorem ent_46 : ent (st46 w) b = Network.apply (stage 16 9 (low 9)) (ent (st45 w) b) :=
  ent_step 9 9 (by norm_num) (by norm_num) (st45 w) _ b (nb9_ixAt _ b) (nb9_ixAt _ b)

theorem ent_47 : ent (st47 w) b = Network.apply (stage 16 8 (low 9)) (ent (st46 w) b) :=
  ent_step 8 9 (by norm_num) (by norm_num) (st46 w) _ b (nb8_ixAt _ b) (nb8_ixAt _ b)

theorem ent_48 : ent (st48 w) b = Network.apply (stage 16 7 (low 9)) (ent (st47 w) b) :=
  ent_step 7 9 (by norm_num) (by norm_num) (st47 w) _ b (nb7_ixAt _ b) (nb7_ixAt _ b)

theorem ent_49 : ent (st49 w) b = Network.apply (stage 16 6 (low 9)) (ent (st48 w) b) :=
  ent_step 6 9 (by norm_num) (by norm_num) (st48 w) _ b (nb6_ixAt _ b) (nb6_ixAt _ b)

theorem ent_50 : ent (st50 w) b = Network.apply (stage 16 5 (low 9)) (ent (st49 w) b) :=
  ent_step 5 9 (by norm_num) (by norm_num) (st49 w) _ b (nb5_ixAt _ b) (nb5_ixAt _ b)

theorem ent_51 : ent (st51 w) b = Network.apply (stage 16 4 (low 9)) (ent (st50 w) b) :=
  ent_step 4 9 (by norm_num) (by norm_num) (st50 w) _ b (nb4_ixAt _ b) (nb4_ixAt _ b)

theorem ent_52 : ent (st52 w) b = Network.apply (stage 16 3 (low 9)) (ent (st51 w) b) :=
  ent_step 3 9 (by norm_num) (by norm_num) (st51 w) _ b (nb3_ixAt _ b) (nb3_ixAt _ b)

theorem ent_53 : ent (st53 w) b = Network.apply (stage 16 2 (low 9)) (ent (st52 w) b) :=
  ent_step 2 9 (by norm_num) (by norm_num) (st52 w) _ b (nb2_ixAt _ b) (nb2_ixAt _ b)

theorem ent_54 : ent (st54 w) b = Network.apply (stage 16 1 (low 9)) (ent (st53 w) b) :=
  ent_step 1 9 (by norm_num) (by norm_num) (st53 w) _ b (nb1_ixAt _ b) (nb1_ixAt _ b)

theorem ent_55 : ent (st55 w) b = Network.apply (stage 16 0 (low 9)) (ent (st54 w) b) :=
  ent_step 0 9 (by norm_num) (by norm_num) (st54 w) _ b (nb0_ixAt _ b) (nb0_ixAt _ b)

theorem ent_56 : ent (st56 w) b = Network.apply (stage 16 10 (low 10)) (ent (st55 w) b) :=
  ent_step 10 10 (by norm_num) (by norm_num) (st55 w) _ b (nb10_ixAt _ b) (nb10_ixAt _ b)

theorem ent_57 : ent (st57 w) b = Network.apply (stage 16 9 (low 10)) (ent (st56 w) b) :=
  ent_step 9 10 (by norm_num) (by norm_num) (st56 w) _ b (nb9_ixAt _ b) (nb9_ixAt _ b)

theorem ent_58 : ent (st58 w) b = Network.apply (stage 16 8 (low 10)) (ent (st57 w) b) :=
  ent_step 8 10 (by norm_num) (by norm_num) (st57 w) _ b (nb8_ixAt _ b) (nb8_ixAt _ b)

theorem ent_59 : ent (st59 w) b = Network.apply (stage 16 7 (low 10)) (ent (st58 w) b) :=
  ent_step 7 10 (by norm_num) (by norm_num) (st58 w) _ b (nb7_ixAt _ b) (nb7_ixAt _ b)

theorem ent_60 : ent (st60 w) b = Network.apply (stage 16 6 (low 10)) (ent (st59 w) b) :=
  ent_step 6 10 (by norm_num) (by norm_num) (st59 w) _ b (nb6_ixAt _ b) (nb6_ixAt _ b)

theorem ent_61 : ent (st61 w) b = Network.apply (stage 16 5 (low 10)) (ent (st60 w) b) :=
  ent_step 5 10 (by norm_num) (by norm_num) (st60 w) _ b (nb5_ixAt _ b) (nb5_ixAt _ b)

theorem ent_62 : ent (st62 w) b = Network.apply (stage 16 4 (low 10)) (ent (st61 w) b) :=
  ent_step 4 10 (by norm_num) (by norm_num) (st61 w) _ b (nb4_ixAt _ b) (nb4_ixAt _ b)

theorem ent_63 : ent (st63 w) b = Network.apply (stage 16 3 (low 10)) (ent (st62 w) b) :=
  ent_step 3 10 (by norm_num) (by norm_num) (st62 w) _ b (nb3_ixAt _ b) (nb3_ixAt _ b)

theorem ent_64 : ent (st64 w) b = Network.apply (stage 16 2 (low 10)) (ent (st63 w) b) :=
  ent_step 2 10 (by norm_num) (by norm_num) (st63 w) _ b (nb2_ixAt _ b) (nb2_ixAt _ b)

theorem ent_65 : ent (st65 w) b = Network.apply (stage 16 1 (low 10)) (ent (st64 w) b) :=
  ent_step 1 10 (by norm_num) (by norm_num) (st64 w) _ b (nb1_ixAt _ b) (nb1_ixAt _ b)

theorem ent_66 : ent (st66 w) b = Network.apply (stage 16 0 (low 10)) (ent (st65 w) b) :=
  ent_step 0 10 (by norm_num) (by norm_num) (st65 w) _ b (nb0_ixAt _ b) (nb0_ixAt _ b)

theorem ent_67 : ent (st67 w) b = Network.apply (stage 16 11 (low 11)) (ent (st66 w) b) :=
  ent_step 11 11 (by norm_num) (by norm_num) (st66 w) _ b (nb11_ixAt _ b) (nb11_ixAt _ b)

theorem ent_68 : ent (st68 w) b = Network.apply (stage 16 10 (low 11)) (ent (st67 w) b) :=
  ent_step 10 11 (by norm_num) (by norm_num) (st67 w) _ b (nb10_ixAt _ b) (nb10_ixAt _ b)

theorem ent_69 : ent (st69 w) b = Network.apply (stage 16 9 (low 11)) (ent (st68 w) b) :=
  ent_step 9 11 (by norm_num) (by norm_num) (st68 w) _ b (nb9_ixAt _ b) (nb9_ixAt _ b)

theorem ent_70 : ent (st70 w) b = Network.apply (stage 16 8 (low 11)) (ent (st69 w) b) :=
  ent_step 8 11 (by norm_num) (by norm_num) (st69 w) _ b (nb8_ixAt _ b) (nb8_ixAt _ b)

theorem ent_71 : ent (st71 w) b = Network.apply (stage 16 7 (low 11)) (ent (st70 w) b) :=
  ent_step 7 11 (by norm_num) (by norm_num) (st70 w) _ b (nb7_ixAt _ b) (nb7_ixAt _ b)

theorem ent_72 : ent (st72 w) b = Network.apply (stage 16 6 (low 11)) (ent (st71 w) b) :=
  ent_step 6 11 (by norm_num) (by norm_num) (st71 w) _ b (nb6_ixAt _ b) (nb6_ixAt _ b)

theorem ent_73 : ent (st73 w) b = Network.apply (stage 16 5 (low 11)) (ent (st72 w) b) :=
  ent_step 5 11 (by norm_num) (by norm_num) (st72 w) _ b (nb5_ixAt _ b) (nb5_ixAt _ b)

theorem ent_74 : ent (st74 w) b = Network.apply (stage 16 4 (low 11)) (ent (st73 w) b) :=
  ent_step 4 11 (by norm_num) (by norm_num) (st73 w) _ b (nb4_ixAt _ b) (nb4_ixAt _ b)

theorem ent_75 : ent (st75 w) b = Network.apply (stage 16 3 (low 11)) (ent (st74 w) b) :=
  ent_step 3 11 (by norm_num) (by norm_num) (st74 w) _ b (nb3_ixAt _ b) (nb3_ixAt _ b)

theorem ent_76 : ent (st76 w) b = Network.apply (stage 16 2 (low 11)) (ent (st75 w) b) :=
  ent_step 2 11 (by norm_num) (by norm_num) (st75 w) _ b (nb2_ixAt _ b) (nb2_ixAt _ b)

theorem ent_77 : ent (st77 w) b = Network.apply (stage 16 1 (low 11)) (ent (st76 w) b) :=
  ent_step 1 11 (by norm_num) (by norm_num) (st76 w) _ b (nb1_ixAt _ b) (nb1_ixAt _ b)

theorem ent_78 : ent (st78 w) b = Network.apply (stage 16 0 (low 11)) (ent (st77 w) b) :=
  ent_step 0 11 (by norm_num) (by norm_num) (st77 w) _ b (nb0_ixAt _ b) (nb0_ixAt _ b)

theorem ent_79 : ent (st79 w) b = Network.apply (stage 16 12 (low 12)) (ent (st78 w) b) :=
  ent_step 12 12 (by norm_num) (by norm_num) (st78 w) _ b (nb12_ixAt _ b) (nb12_ixAt _ b)

theorem ent_80 : ent (st80 w) b = Network.apply (stage 16 11 (low 12)) (ent (st79 w) b) :=
  ent_step 11 12 (by norm_num) (by norm_num) (st79 w) _ b (nb11_ixAt _ b) (nb11_ixAt _ b)

theorem ent_81 : ent (st81 w) b = Network.apply (stage 16 10 (low 12)) (ent (st80 w) b) :=
  ent_step 10 12 (by norm_num) (by norm_num) (st80 w) _ b (nb10_ixAt _ b) (nb10_ixAt _ b)

theorem ent_82 : ent (st82 w) b = Network.apply (stage 16 9 (low 12)) (ent (st81 w) b) :=
  ent_step 9 12 (by norm_num) (by norm_num) (st81 w) _ b (nb9_ixAt _ b) (nb9_ixAt _ b)

theorem ent_83 : ent (st83 w) b = Network.apply (stage 16 8 (low 12)) (ent (st82 w) b) :=
  ent_step 8 12 (by norm_num) (by norm_num) (st82 w) _ b (nb8_ixAt _ b) (nb8_ixAt _ b)

theorem ent_84 : ent (st84 w) b = Network.apply (stage 16 7 (low 12)) (ent (st83 w) b) :=
  ent_step 7 12 (by norm_num) (by norm_num) (st83 w) _ b (nb7_ixAt _ b) (nb7_ixAt _ b)

theorem ent_85 : ent (st85 w) b = Network.apply (stage 16 6 (low 12)) (ent (st84 w) b) :=
  ent_step 6 12 (by norm_num) (by norm_num) (st84 w) _ b (nb6_ixAt _ b) (nb6_ixAt _ b)

theorem ent_86 : ent (st86 w) b = Network.apply (stage 16 5 (low 12)) (ent (st85 w) b) :=
  ent_step 5 12 (by norm_num) (by norm_num) (st85 w) _ b (nb5_ixAt _ b) (nb5_ixAt _ b)

theorem ent_87 : ent (st87 w) b = Network.apply (stage 16 4 (low 12)) (ent (st86 w) b) :=
  ent_step 4 12 (by norm_num) (by norm_num) (st86 w) _ b (nb4_ixAt _ b) (nb4_ixAt _ b)

theorem ent_88 : ent (st88 w) b = Network.apply (stage 16 3 (low 12)) (ent (st87 w) b) :=
  ent_step 3 12 (by norm_num) (by norm_num) (st87 w) _ b (nb3_ixAt _ b) (nb3_ixAt _ b)

theorem ent_89 : ent (st89 w) b = Network.apply (stage 16 2 (low 12)) (ent (st88 w) b) :=
  ent_step 2 12 (by norm_num) (by norm_num) (st88 w) _ b (nb2_ixAt _ b) (nb2_ixAt _ b)

theorem ent_90 : ent (st90 w) b = Network.apply (stage 16 1 (low 12)) (ent (st89 w) b) :=
  ent_step 1 12 (by norm_num) (by norm_num) (st89 w) _ b (nb1_ixAt _ b) (nb1_ixAt _ b)

theorem ent_91 : ent (st91 w) b = Network.apply (stage 16 0 (low 12)) (ent (st90 w) b) :=
  ent_step 0 12 (by norm_num) (by norm_num) (st90 w) _ b (nb0_ixAt _ b) (nb0_ixAt _ b)

theorem ent_92 : ent (st92 w) b = Network.apply (stage 16 13 (low 13)) (ent (st91 w) b) :=
  ent_step 13 13 (by norm_num) (by norm_num) (st91 w) _ b (nb13_ixAt _ b) (nb13_ixAt _ b)

theorem ent_93 : ent (st93 w) b = Network.apply (stage 16 12 (low 13)) (ent (st92 w) b) :=
  ent_step 12 13 (by norm_num) (by norm_num) (st92 w) _ b (nb12_ixAt _ b) (nb12_ixAt _ b)

theorem ent_94 : ent (st94 w) b = Network.apply (stage 16 11 (low 13)) (ent (st93 w) b) :=
  ent_step 11 13 (by norm_num) (by norm_num) (st93 w) _ b (nb11_ixAt _ b) (nb11_ixAt _ b)

theorem ent_95 : ent (st95 w) b = Network.apply (stage 16 10 (low 13)) (ent (st94 w) b) :=
  ent_step 10 13 (by norm_num) (by norm_num) (st94 w) _ b (nb10_ixAt _ b) (nb10_ixAt _ b)

theorem ent_96 : ent (st96 w) b = Network.apply (stage 16 9 (low 13)) (ent (st95 w) b) :=
  ent_step 9 13 (by norm_num) (by norm_num) (st95 w) _ b (nb9_ixAt _ b) (nb9_ixAt _ b)

theorem ent_97 : ent (st97 w) b = Network.apply (stage 16 8 (low 13)) (ent (st96 w) b) :=
  ent_step 8 13 (by norm_num) (by norm_num) (st96 w) _ b (nb8_ixAt _ b) (nb8_ixAt _ b)

theorem ent_98 : ent (st98 w) b = Network.apply (stage 16 7 (low 13)) (ent (st97 w) b) :=
  ent_step 7 13 (by norm_num) (by norm_num) (st97 w) _ b (nb7_ixAt _ b) (nb7_ixAt _ b)

theorem ent_99 : ent (st99 w) b = Network.apply (stage 16 6 (low 13)) (ent (st98 w) b) :=
  ent_step 6 13 (by norm_num) (by norm_num) (st98 w) _ b (nb6_ixAt _ b) (nb6_ixAt _ b)

theorem ent_100 : ent (st100 w) b = Network.apply (stage 16 5 (low 13)) (ent (st99 w) b) :=
  ent_step 5 13 (by norm_num) (by norm_num) (st99 w) _ b (nb5_ixAt _ b) (nb5_ixAt _ b)

theorem ent_101 : ent (st101 w) b = Network.apply (stage 16 4 (low 13)) (ent (st100 w) b) :=
  ent_step 4 13 (by norm_num) (by norm_num) (st100 w) _ b (nb4_ixAt _ b) (nb4_ixAt _ b)

theorem ent_102 : ent (st102 w) b = Network.apply (stage 16 3 (low 13)) (ent (st101 w) b) :=
  ent_step 3 13 (by norm_num) (by norm_num) (st101 w) _ b (nb3_ixAt _ b) (nb3_ixAt _ b)

theorem ent_103 : ent (st103 w) b = Network.apply (stage 16 2 (low 13)) (ent (st102 w) b) :=
  ent_step 2 13 (by norm_num) (by norm_num) (st102 w) _ b (nb2_ixAt _ b) (nb2_ixAt _ b)

theorem ent_104 : ent (st104 w) b = Network.apply (stage 16 1 (low 13)) (ent (st103 w) b) :=
  ent_step 1 13 (by norm_num) (by norm_num) (st103 w) _ b (nb1_ixAt _ b) (nb1_ixAt _ b)

theorem ent_105 : ent (st105 w) b = Network.apply (stage 16 0 (low 13)) (ent (st104 w) b) :=
  ent_step 0 13 (by norm_num) (by norm_num) (st104 w) _ b (nb0_ixAt _ b) (nb0_ixAt _ b)

theorem ent_106 : ent (st106 w) b = Network.apply (stage 16 14 (low 14)) (ent (st105 w) b) :=
  ent_step 14 14 (by norm_num) (by norm_num) (st105 w) _ b (nb14_ixAt _ b) (nb14_ixAt _ b)

theorem ent_107 : ent (st107 w) b = Network.apply (stage 16 13 (low 14)) (ent (st106 w) b) :=
  ent_step 13 14 (by norm_num) (by norm_num) (st106 w) _ b (nb13_ixAt _ b) (nb13_ixAt _ b)

theorem ent_108 : ent (st108 w) b = Network.apply (stage 16 12 (low 14)) (ent (st107 w) b) :=
  ent_step 12 14 (by norm_num) (by norm_num) (st107 w) _ b (nb12_ixAt _ b) (nb12_ixAt _ b)

theorem ent_109 : ent (st109 w) b = Network.apply (stage 16 11 (low 14)) (ent (st108 w) b) :=
  ent_step 11 14 (by norm_num) (by norm_num) (st108 w) _ b (nb11_ixAt _ b) (nb11_ixAt _ b)

theorem ent_110 : ent (st110 w) b = Network.apply (stage 16 10 (low 14)) (ent (st109 w) b) :=
  ent_step 10 14 (by norm_num) (by norm_num) (st109 w) _ b (nb10_ixAt _ b) (nb10_ixAt _ b)

theorem ent_111 : ent (st111 w) b = Network.apply (stage 16 9 (low 14)) (ent (st110 w) b) :=
  ent_step 9 14 (by norm_num) (by norm_num) (st110 w) _ b (nb9_ixAt _ b) (nb9_ixAt _ b)

theorem ent_112 : ent (st112 w) b = Network.apply (stage 16 8 (low 14)) (ent (st111 w) b) :=
  ent_step 8 14 (by norm_num) (by norm_num) (st111 w) _ b (nb8_ixAt _ b) (nb8_ixAt _ b)

theorem ent_113 : ent (st113 w) b = Network.apply (stage 16 7 (low 14)) (ent (st112 w) b) :=
  ent_step 7 14 (by norm_num) (by norm_num) (st112 w) _ b (nb7_ixAt _ b) (nb7_ixAt _ b)

theorem ent_114 : ent (st114 w) b = Network.apply (stage 16 6 (low 14)) (ent (st113 w) b) :=
  ent_step 6 14 (by norm_num) (by norm_num) (st113 w) _ b (nb6_ixAt _ b) (nb6_ixAt _ b)

theorem ent_115 : ent (st115 w) b = Network.apply (stage 16 5 (low 14)) (ent (st114 w) b) :=
  ent_step 5 14 (by norm_num) (by norm_num) (st114 w) _ b (nb5_ixAt _ b) (nb5_ixAt _ b)

theorem ent_116 : ent (st116 w) b = Network.apply (stage 16 4 (low 14)) (ent (st115 w) b) :=
  ent_step 4 14 (by norm_num) (by norm_num) (st115 w) _ b (nb4_ixAt _ b) (nb4_ixAt _ b)

theorem ent_117 : ent (st117 w) b = Network.apply (stage 16 3 (low 14)) (ent (st116 w) b) :=
  ent_step 3 14 (by norm_num) (by norm_num) (st116 w) _ b (nb3_ixAt _ b) (nb3_ixAt _ b)

theorem ent_118 : ent (st118 w) b = Network.apply (stage 16 2 (low 14)) (ent (st117 w) b) :=
  ent_step 2 14 (by norm_num) (by norm_num) (st117 w) _ b (nb2_ixAt _ b) (nb2_ixAt _ b)

theorem ent_119 : ent (st119 w) b = Network.apply (stage 16 1 (low 14)) (ent (st118 w) b) :=
  ent_step 1 14 (by norm_num) (by norm_num) (st118 w) _ b (nb1_ixAt _ b) (nb1_ixAt _ b)

theorem ent_120 : ent (st120 w) b = Network.apply (stage 16 0 (low 14)) (ent (st119 w) b) :=
  ent_step 0 14 (by norm_num) (by norm_num) (st119 w) _ b (nb0_ixAt _ b) (nb0_ixAt _ b)

theorem ent_121 : ent (st121 w) b = Network.apply (stage 16 15 (low 15)) (ent (st120 w) b) :=
  ent_step 15 15 (by norm_num) (by norm_num) (st120 w) _ b (nb15_ixAt _ b) (nb15_ixAt _ b)

theorem ent_122 : ent (st122 w) b = Network.apply (stage 16 14 (low 15)) (ent (st121 w) b) :=
  ent_step 14 15 (by norm_num) (by norm_num) (st121 w) _ b (nb14_ixAt _ b) (nb14_ixAt _ b)

theorem ent_123 : ent (st123 w) b = Network.apply (stage 16 13 (low 15)) (ent (st122 w) b) :=
  ent_step 13 15 (by norm_num) (by norm_num) (st122 w) _ b (nb13_ixAt _ b) (nb13_ixAt _ b)

theorem ent_124 : ent (st124 w) b = Network.apply (stage 16 12 (low 15)) (ent (st123 w) b) :=
  ent_step 12 15 (by norm_num) (by norm_num) (st123 w) _ b (nb12_ixAt _ b) (nb12_ixAt _ b)

theorem ent_125 : ent (st125 w) b = Network.apply (stage 16 11 (low 15)) (ent (st124 w) b) :=
  ent_step 11 15 (by norm_num) (by norm_num) (st124 w) _ b (nb11_ixAt _ b) (nb11_ixAt _ b)

theorem ent_126 : ent (st126 w) b = Network.apply (stage 16 10 (low 15)) (ent (st125 w) b) :=
  ent_step 10 15 (by norm_num) (by norm_num) (st125 w) _ b (nb10_ixAt _ b) (nb10_ixAt _ b)

theorem ent_127 : ent (st127 w) b = Network.apply (stage 16 9 (low 15)) (ent (st126 w) b) :=
  ent_step 9 15 (by norm_num) (by norm_num) (st126 w) _ b (nb9_ixAt _ b) (nb9_ixAt _ b)

theorem ent_128 : ent (st128 w) b = Network.apply (stage 16 8 (low 15)) (ent (st127 w) b) :=
  ent_step 8 15 (by norm_num) (by norm_num) (st127 w) _ b (nb8_ixAt _ b) (nb8_ixAt _ b)

theorem ent_129 : ent (st129 w) b = Network.apply (stage 16 7 (low 15)) (ent (st128 w) b) :=
  ent_step 7 15 (by norm_num) (by norm_num) (st128 w) _ b (nb7_ixAt _ b) (nb7_ixAt _ b)

theorem ent_130 : ent (st130 w) b = Network.apply (stage 16 6 (low 15)) (ent (st129 w) b) :=
  ent_step 6 15 (by norm_num) (by norm_num) (st129 w) _ b (nb6_ixAt _ b) (nb6_ixAt _ b)

theorem ent_131 : ent (st131 w) b = Network.apply (stage 16 5 (low 15)) (ent (st130 w) b) :=
  ent_step 5 15 (by norm_num) (by norm_num) (st130 w) _ b (nb5_ixAt _ b) (nb5_ixAt _ b)

theorem ent_132 : ent (st132 w) b = Network.apply (stage 16 4 (low 15)) (ent (st131 w) b) :=
  ent_step 4 15 (by norm_num) (by norm_num) (st131 w) _ b (nb4_ixAt _ b) (nb4_ixAt _ b)

theorem ent_133 : ent (st133 w) b = Network.apply (stage 16 3 (low 15)) (ent (st132 w) b) :=
  ent_step 3 15 (by norm_num) (by norm_num) (st132 w) _ b (nb3_ixAt _ b) (nb3_ixAt _ b)

theorem ent_134 : ent (st134 w) b = Network.apply (stage 16 2 (low 15)) (ent (st133 w) b) :=
  ent_step 2 15 (by norm_num) (by norm_num) (st133 w) _ b (nb2_ixAt _ b) (nb2_ixAt _ b)

theorem ent_135 : ent (st135 w) b = Network.apply (stage 16 1 (low 15)) (ent (st134 w) b) :=
  ent_step 1 15 (by norm_num) (by norm_num) (st134 w) _ b (nb1_ixAt _ b) (nb1_ixAt _ b)

theorem ent_136 : ent (st136 w) b = Network.apply (stage 16 0 (low 15)) (ent (st135 w) b) :=
  ent_step 0 15 (by norm_num) (by norm_num) (st135 w) _ b (nb0_ixAt _ b) (nb0_ixAt _ b)

theorem level_0 : ent (st1 w) b
    = Network.apply ((List.range (0 + 1)).reverse.flatMap fun s => stage 16 s (low 0)) (ent (st0 w) b) := by
  rw [show (List.range (0 + 1)).reverse = [0] from rfl]
  simp only [List.flatMap_cons, List.flatMap_nil, List.append_nil, Network.apply_append]
  rw [ent_1]

theorem level_1 : ent (st3 w) b
    = Network.apply ((List.range (1 + 1)).reverse.flatMap fun s => stage 16 s (low 1)) (ent (st1 w) b) := by
  rw [show (List.range (1 + 1)).reverse = [1, 0] from rfl]
  simp only [List.flatMap_cons, List.flatMap_nil, List.append_nil, Network.apply_append]
  rw [ent_3, ent_2]

theorem level_2 : ent (st6 w) b
    = Network.apply ((List.range (2 + 1)).reverse.flatMap fun s => stage 16 s (low 2)) (ent (st3 w) b) := by
  rw [show (List.range (2 + 1)).reverse = [2, 1, 0] from rfl]
  simp only [List.flatMap_cons, List.flatMap_nil, List.append_nil, Network.apply_append]
  rw [ent_6, ent_5, ent_4]

theorem level_3 : ent (st10 w) b
    = Network.apply ((List.range (3 + 1)).reverse.flatMap fun s => stage 16 s (low 3)) (ent (st6 w) b) := by
  rw [show (List.range (3 + 1)).reverse = [3, 2, 1, 0] from rfl]
  simp only [List.flatMap_cons, List.flatMap_nil, List.append_nil, Network.apply_append]
  rw [ent_10, ent_9, ent_8, ent_7]

theorem level_4 : ent (st15 w) b
    = Network.apply ((List.range (4 + 1)).reverse.flatMap fun s => stage 16 s (low 4)) (ent (st10 w) b) := by
  rw [show (List.range (4 + 1)).reverse = [4, 3, 2, 1, 0] from rfl]
  simp only [List.flatMap_cons, List.flatMap_nil, List.append_nil, Network.apply_append]
  rw [ent_15, ent_14, ent_13, ent_12, ent_11]

theorem level_5 : ent (st21 w) b
    = Network.apply ((List.range (5 + 1)).reverse.flatMap fun s => stage 16 s (low 5)) (ent (st15 w) b) := by
  rw [show (List.range (5 + 1)).reverse = [5, 4, 3, 2, 1, 0] from rfl]
  simp only [List.flatMap_cons, List.flatMap_nil, List.append_nil, Network.apply_append]
  rw [ent_21, ent_20, ent_19, ent_18, ent_17, ent_16]

theorem level_6 : ent (st28 w) b
    = Network.apply ((List.range (6 + 1)).reverse.flatMap fun s => stage 16 s (low 6)) (ent (st21 w) b) := by
  rw [show (List.range (6 + 1)).reverse = [6, 5, 4, 3, 2, 1, 0] from rfl]
  simp only [List.flatMap_cons, List.flatMap_nil, List.append_nil, Network.apply_append]
  rw [ent_28, ent_27, ent_26, ent_25, ent_24, ent_23, ent_22]

theorem level_7 : ent (st36 w) b
    = Network.apply ((List.range (7 + 1)).reverse.flatMap fun s => stage 16 s (low 7)) (ent (st28 w) b) := by
  rw [show (List.range (7 + 1)).reverse = [7, 6, 5, 4, 3, 2, 1, 0] from rfl]
  simp only [List.flatMap_cons, List.flatMap_nil, List.append_nil, Network.apply_append]
  rw [ent_36, ent_35, ent_34, ent_33, ent_32, ent_31, ent_30, ent_29]

theorem level_8 : ent (st45 w) b
    = Network.apply ((List.range (8 + 1)).reverse.flatMap fun s => stage 16 s (low 8)) (ent (st36 w) b) := by
  rw [show (List.range (8 + 1)).reverse = [8, 7, 6, 5, 4, 3, 2, 1, 0] from rfl]
  simp only [List.flatMap_cons, List.flatMap_nil, List.append_nil, Network.apply_append]
  rw [ent_45, ent_44, ent_43, ent_42, ent_41, ent_40, ent_39, ent_38, ent_37]

theorem level_9 : ent (st55 w) b
    = Network.apply ((List.range (9 + 1)).reverse.flatMap fun s => stage 16 s (low 9)) (ent (st45 w) b) := by
  rw [show (List.range (9 + 1)).reverse = [9, 8, 7, 6, 5, 4, 3, 2, 1, 0] from rfl]
  simp only [List.flatMap_cons, List.flatMap_nil, List.append_nil, Network.apply_append]
  rw [ent_55, ent_54, ent_53, ent_52, ent_51, ent_50, ent_49, ent_48, ent_47, ent_46]

theorem level_10 : ent (st66 w) b
    = Network.apply ((List.range (10 + 1)).reverse.flatMap fun s => stage 16 s (low 10)) (ent (st55 w) b) := by
  rw [show (List.range (10 + 1)).reverse = [10, 9, 8, 7, 6, 5, 4, 3, 2, 1, 0] from rfl]
  simp only [List.flatMap_cons, List.flatMap_nil, List.append_nil, Network.apply_append]
  rw [ent_66, ent_65, ent_64, ent_63, ent_62, ent_61, ent_60, ent_59, ent_58, ent_57, ent_56]

theorem level_11 : ent (st78 w) b
    = Network.apply ((List.range (11 + 1)).reverse.flatMap fun s => stage 16 s (low 11)) (ent (st66 w) b) := by
  rw [show (List.range (11 + 1)).reverse = [11, 10, 9, 8, 7, 6, 5, 4, 3, 2, 1, 0] from rfl]
  simp only [List.flatMap_cons, List.flatMap_nil, List.append_nil, Network.apply_append]
  rw [ent_78, ent_77, ent_76, ent_75, ent_74, ent_73, ent_72, ent_71, ent_70, ent_69, ent_68, ent_67]

theorem level_12 : ent (st91 w) b
    = Network.apply ((List.range (12 + 1)).reverse.flatMap fun s => stage 16 s (low 12)) (ent (st78 w) b) := by
  rw [show (List.range (12 + 1)).reverse = [12, 11, 10, 9, 8, 7, 6, 5, 4, 3, 2, 1, 0] from rfl]
  simp only [List.flatMap_cons, List.flatMap_nil, List.append_nil, Network.apply_append]
  rw [ent_91, ent_90, ent_89, ent_88, ent_87, ent_86, ent_85, ent_84, ent_83, ent_82, ent_81, ent_80, ent_79]

theorem level_13 : ent (st105 w) b
    = Network.apply ((List.range (13 + 1)).reverse.flatMap fun s => stage 16 s (low 13)) (ent (st91 w) b) := by
  rw [show (List.range (13 + 1)).reverse = [13, 12, 11, 10, 9, 8, 7, 6, 5, 4, 3, 2, 1, 0] from rfl]
  simp only [List.flatMap_cons, List.flatMap_nil, List.append_nil, Network.apply_append]
  rw [ent_105, ent_104, ent_103, ent_102, ent_101, ent_100, ent_99, ent_98, ent_97, ent_96, ent_95, ent_94, ent_93, ent_92]

theorem level_14 : ent (st120 w) b
    = Network.apply ((List.range (14 + 1)).reverse.flatMap fun s => stage 16 s (low 14)) (ent (st105 w) b) := by
  rw [show (List.range (14 + 1)).reverse = [14, 13, 12, 11, 10, 9, 8, 7, 6, 5, 4, 3, 2, 1, 0] from rfl]
  simp only [List.flatMap_cons, List.flatMap_nil, List.append_nil, Network.apply_append]
  rw [ent_120, ent_119, ent_118, ent_117, ent_116, ent_115, ent_114, ent_113, ent_112, ent_111, ent_110, ent_109, ent_108, ent_107, ent_106]

theorem level_15 : ent (st136 w) b
    = Network.apply ((List.range (15 + 1)).reverse.flatMap fun s => stage 16 s (low 15)) (ent (st120 w) b) := by
  rw [show (List.range (15 + 1)).reverse = [15, 14, 13, 12, 11, 10, 9, 8, 7, 6, 5, 4, 3, 2, 1, 0] from rfl]
  simp only [List.flatMap_cons, List.flatMap_nil, List.append_nil, Network.apply_append]
  rw [ent_136, ent_135, ent_134, ent_133, ent_132, ent_131, ent_130, ent_129, ent_128, ent_127, ent_126, ent_125, ent_124, ent_123, ent_122, ent_121]

/-- All the stages together sort every batch downwards. -/
theorem ent_sorted : ent (st136 w) b = Network.apply (sortNet 16 true) (ent (st0 w) b) := by
  unfold sortNet
  rw [show List.range 16 = [0, 1, 2, 3, 4, 5, 6, 7, 8, 9, 10, 11, 12, 13, 14, 15] from rfl]
  simp only [List.flatMap_cons, List.flatMap_nil, List.append_nil, Network.apply_append]
  rw [level_15, level_14, level_13, level_12, level_11, level_10, level_9, level_8, level_7, level_6, level_5, level_4, level_3, level_2, level_1, level_0]

end Cert.KernelIdeal.Sort
-- ==== Proof.TopK.lean ====
module

public import proofs.«01_k».proof.Proof.Chain
public import proofs.«01_k».proof.Proof.Gen.ReferenceIdeal.Run

/-! # The sorted arrays and the reference's selection

Both the sorted arrays' first positions and the reference's selection are read through the same
order of the keys. -/

@[expose] public section

open Idealize.ShloMosaic Idealize.ShloMosaic.SortNet

namespace Cert.TopNet

/-- The positions of one batch's keys, greatest first, equal ones in order. -/
noncomputable def order {n : Nat} (x : (⟨2, ![2, n]⟩ : Shape).Idx → EReal) (b : Fin 2) : Fin n → Fin n :=
  sortedFrom fun a c => decide (x (ix2 b c) < x (ix2 b a))

/-- Where position `q` of the sorted list starts out: row times 128 plus lane. -/
noncomputable def start : Equiv.Perm (Fin (2 ^ 16)) :=
  Equiv.ofBijective (fun q => ⟨q.val % 512 * 128 + q.val / 512, by have := q.isLt; omega⟩) <| by
    rw [Finite.injective_iff_bijective.symm]
    intro a c h
    have ha := a.isLt
    have hc := c.isLt
    have h' := Fin.mk.inj_iff.mp h
    apply Fin.ext
    omega

theorem toInt_word (n : Nat) (h : n < 2 ^ 31) : (BitVec.ofNat 32 n).toInt = (n : ℤ) := by
  have e : (BitVec.ofNat 32 n).toNat = n := by rw [BitVec.toNat_ofNat]; omega
  rw [BitVec.toInt_eq_toNat_of_lt (by omega), e]

theorem start_val (q : Fin (2 ^ 16)) : (start q).val = q.val % 512 * 128 + q.val / 512 := rfl

end Cert.TopNet

namespace Cert.KernelIdeal.Sort

open Cert.KernelIdeal Cert.KernelIdeal.Gen Cert.TopNet

/-- The sorted arrays at one of the first positions. -/
theorem sorted_apply (x : (⟨2, ![2, 50176]⟩ : Shape).Idx → EReal) (pad : EReal) (hpad : ∀ i, pad < x i)
    (w : FVec Ideal S2x512x128 .f32)
    (hw : ∀ (b : Fin 2) (r : Fin 512) (l : Fin 128), w (ix3 b r l)
      = if h : r.val * 128 + l.val < 50176 then x (ix2 b (⟨r.val * 128 + l.val, h⟩ : Fin 50176)) else pad)
    (b : Fin 2) (i : Fin 50176) :
    (st136 w).1 (ixAt b (i.castLE (by norm_num))) = x (ix2 b (order x b i))
      ∧ (st136 w).2 (ixAt b (i.castLE (by norm_num))) = BitVec.ofNat 32 (order x b i).val := by
  have h1 := congrFun (ent_sorted w b) (i.castLE (by norm_num))
  rw [net_prefix (n := 50176) (p := 16) (by norm_num) (fun a => x (ix2 b a)) pad (fun a => hpad _) start _
    (fun q => ?_) i] at h1
  · obtain ⟨e1, e2⟩ := entry_inj h1
    refine ⟨e1, BitVec.eq_of_toInt_eq (e2.trans ?_)⟩
    have := (order x b i).isLt
    show ((order x b i).val : ℤ) = _
    exact (toInt_word _ (by omega)).symm
  · show entry (w (ix3 b _ _)) (kernelRun1_A.sl.v9 (ixAt b q)).toInt = _
    rw [hw, ini_ixAt]
    have hq := q.isLt
    congr 1
    exact toInt_word _ (by omega)

end Cert.KernelIdeal.Sort

namespace Cert.TopNet

open Cert.ReferenceIdeal

section AnyWidth
variable {n : Nat} (x : (⟨2, ![2, n]⟩ : Shape).Idx → EReal) (b : Fin 2)

theorem along_ix2 (c k : Fin n) : Shape.Idx.along (s := ⟨2, ![2, n]⟩) (ix2 b c) 1 k = ix2 b k := by
  funext a
  match a with
  | ⟨0, _⟩ => rfl
  | ⟨1, _⟩ => rfl

theorem sorted_eq (c : Fin n) :
    sortedFrom (n := n) (fun k k' : Fin n => FloatOps.cmpfTotal (F := Ideal) (φ := .f32) .gt
        (x (Shape.Idx.along (s := ⟨2, ![2, n]⟩) (ix2 b c) 1 k)) (x (Shape.Idx.along (s := ⟨2, ![2, n]⟩) (ix2 b c) 1 k')) == 1#1)
      = order x b := by
  unfold order
  congr 1
  funext k k'
  rw [along_ix2, along_ix2]
  show (BitVec.ofBool (decide (x (ix2 b k') < x (ix2 b k))) == 1#1) = _
  cases decide (x (ix2 b k') < x (ix2 b k)) <;> rfl

theorem along_order (c : Fin n) :
    Shape.Idx.along (s := ⟨2, ![2, n]⟩) (ix2 b c) 1 (sortedFrom (n := n) (fun k k' : Fin n => FloatOps.cmpfTotal (F := Ideal) (φ := .f32) .gt
        (x (Shape.Idx.along (s := ⟨2, ![2, n]⟩) (ix2 b c) 1 k)) (x (Shape.Idx.along (s := ⟨2, ![2, n]⟩) (ix2 b c) 1 k')) == 1#1) c)
      = ix2 b (order x b c) :=
  (along_ix2 b c _).trans (congrArg (fun f : Fin n → Fin n => (ix2 b (f c) : (⟨2, ![2, n]⟩ : Shape).Idx)) (sorted_eq x b c))

/-- The sorted values. -/
theorem sort2_values (y : IVec ⟨2, ![2, n]⟩ 32) (c : Fin n) :
    (Host.sort2 ⟨2, ![2, n]⟩ 1 (fun l r => FloatOps.cmpfTotal (F := Ideal) (φ := .f32) .gt l.1 r.1) x y).1 (ix2 b c)
      = x (ix2 b (order x b c)) := by
  unfold Host.sort2
  rw [dif_pos (show (1 : Nat) < 2 by decide)]
  exact congrArg x (along_order x b c)

/-- The sorted companions. -/
theorem sort2_companions (y : IVec ⟨2, ![2, n]⟩ 32) (c : Fin n) :
    (Host.sort2 ⟨2, ![2, n]⟩ 1 (fun l r => FloatOps.cmpfTotal (F := Ideal) (φ := .f32) .gt l.1 r.1) x y).2 (ix2 b c)
      = y (ix2 b (order x b c)) := by
  unfold Host.sort2
  rw [dif_pos (show (1 : Nat) < 2 by decide)]
  exact congrArg y (along_order x b c)

end AnyWidth

/-- Where the front slice reads. -/
theorem front_apply {α : Type} (v : S2x50176.Idx → α) (h : S2x50176.Slices (fun _ => 0) S2x12544) (b : Fin 2) (i : Fin 12544) :
    extractStridedSlice S2x12544 (fun _ => 0) v h (ix2 b i) = v (ix2 b (i.castLE (by norm_num) : Fin 50176)) :=
  extractStridedSlice_apply _ _ _ _ _ fun a => by
    match a with
    | ⟨0, _⟩ => exact (Nat.zero_add _).symm
    | ⟨1, _⟩ => exact (Nat.zero_add _).symm

/-- The reference's selected values. -/
theorem topK_values (x : S2x50176.Idx → EReal) (h) (b : Fin 2) (i : Fin 12544) :
    (Host.topK S2x12544 1 (FloatOps.cmpfTotal (F := Ideal) (φ := .f32) .gt) x h).1 (ix2 b i)
      = x (ix2 b (order x b (i.castLE (by norm_num)))) := by
  unfold Host.topK
  dsimp only
  rw [front_apply]
  exact (fun y c => sort2_values (n := 50176) x b y c) _ _

/-- The reference's selected indices. -/
theorem topK_indices (x : S2x50176.Idx → EReal) (h) (b : Fin 2) (i : Fin 12544) :
    (Host.topK S2x12544 1 (FloatOps.cmpfTotal (F := Ideal) (φ := .f32) .gt) x h).2 (ix2 b i)
      = BitVec.ofNat 32 (order x b (i.castLE (by norm_num))).val := by
  unfold Host.topK
  dsimp only
  rw [front_apply]
  refine ((fun y c => sort2_companions (n := 50176) x b y c) _ _).trans ?_
  rw [dif_pos (show (1 : Nat) < 2 by decide)]
  rfl

end Cert.TopNet
-- ==== Proof.Layout.lean ====
module

public import proofs.«01_k».proof.Proof.Match
public import proofs.«01_k».proof.Proof.OutVals
public import proofs.«01_k».proof.Proof.TopK

/-! # The values and the indices kept: both programs' second and third results -/

@[expose] public section

set_option maxRecDepth 16384

open Idealize.ShloMosaic Idealize.ShloMosaic.TcCoe Idealize.ShloMosaic.Tactic

namespace Cert.KernelIdeal.Line

open Cert.KernelIdeal Cert.KernelIdeal.Gen Cert.KernelIdeal.Sort Cert.TopNet

theorem negOne : (FloatOps.ofBits .f32 0xBF800000#32 : Ideal .f32) = (((-1 : ℝ) : ℝ) : EReal) := by
  show Ideal.ofBits .f32 0xBF800000#32 = _
  simp [Ideal.ofBits, Ideal.ieee, -EReal.coe_mul]; norm_num

theorem square_nonneg (x : EReal) : 0 ≤ x * x := by
  induction x with
  | bot => simp
  | top => simp
  | coe r => rw [← EReal.coe_mul]; exact_mod_cast mul_self_nonneg r

theorem root_nonneg {x : EReal} (h : 0 ≤ x) : 0 ≤ Ideal.sqrt x := by
  induction x with
  | bot => simp at h
  | top => simp
  | coe r =>
    have hr : ¬ r < 0 := not_lt.mpr (by exact_mod_cast h)
    rw [Ideal.sqrt_coe, if_neg hr]
    exact_mod_cast Real.sqrt_nonneg r

theorem host_root_nonneg {S : Shape} (x : FVec Ideal S .f32) (i : S.Idx) (h : 0 ≤ x i) : 0 ≤ Host.sqrt x i := root_nonneg h

theorem sumsq_nonneg (g : FVec Ideal S2x387x50176 .f32) (b : Fin 2) (q : Fin 50176) :
    0 ≤ (Host.sqrt (Host.reduceAdd (mulf g g) (constant S_ .f32 0x00000000#32) reducesTo_S2x387x50176_S2x50176_d1 h_S_) : FVec Ideal S2x50176 .f32) (ix2 b q) := by
  refine host_root_nonneg _ _ ?_
  pointwise
  have hz : (Ideal.ofBits FTy.f32 0x00000000#32 : EReal) = 0 := by simp [Ideal.ofBits, Ideal.ieee]
  try rw [hz, zero_add]
  exact Finset.sum_nonneg fun k _ => square_nonneg _

theorem normOf_nonneg (out : FVec Ideal S2x3x50176 .f32) (feat : FVec Ideal S2x128x50176 .f32)
    (img : FVec Ideal S2x3x224x224 .f32) (y : S2x50176.Idx) : 0 ≤ normOf (F := Ideal) out feat img y := by
  obtain ⟨b, q, rfl⟩ : ∃ b q, y = ix2 b q := ⟨y 0, y 1, by funext a; fin_cases a <;> rfl⟩
  exact sumsq_nonneg _ b q

/-- Every norm lies above the filling. -/
theorem pad_lt (out : FVec Ideal S2x3x50176 .f32) (feat : FVec Ideal S2x128x50176 .f32)
    (img : FVec Ideal S2x3x224x224 .f32) (y : S2x50176.Idx) :
    (FloatOps.ofBits .f32 0xBF800000#32 : Ideal .f32) < normOf (F := Ideal) out feat img y := by
  refine lt_of_lt_of_le ?_ (normOf_nonneg out feat img y)
  rw [negOne]
  exact_mod_cast (by norm_num : (-1 : ℝ) < 0)

theorem padOf_apply (x : FVec Ideal S2x50176 .f32) (b : Fin 2) (r : Fin 512) (l : Fin 128) :
    padOf (F := Ideal) x (ix3 b r l)
      = if h : r.val * 128 + l.val < 50176 then x (ix2 b (⟨r.val * 128 + l.val, h⟩ : Fin 50176))
        else (FloatOps.ofBits .f32 0xBF800000#32 : Ideal .f32) := by
  unfold padOf
  rw [shapeCast_apply _ _ (ix3 b r l) (ix2 b (⟨r.val * 128 + l.val, by have := r.isLt; have := l.isLt; omega⟩ : Fin 65536))
    (by rw [Shape.rowMajor_val_two, Shape.rowMajor_val_three]; show b.val * 65536 + (r.val * 128 + l.val) = (b.val * 512 + r.val) * 128 + l.val; omega)]
  by_cases h : r.val * 128 + l.val < 50176
  · rw [dif_pos h]
    exact concatenate_pair_apply_left (t := S2x65536) (s₁ := S2x50176) (s₂ := S2x15360) 1 x
      (broadcastInDim S2x15360 ![] bcast_S_S2x15360 (constant S_ .f32 0xBF800000#32)) concatenates_S2x50176_S2x15360_S2x65536_d1 _ rfl
      (ix2 b (⟨r.val * 128 + l.val, h⟩ : Fin 50176)) (Fin.forall_fin_two.mpr ⟨rfl, rfl⟩)
  · rw [dif_neg h]
    exact concatenate_pair_apply_right (t := S2x65536) (s₁ := S2x50176) (s₂ := S2x15360) 1 x
      (broadcastInDim S2x15360 ![] bcast_S_S2x15360 (constant S_ .f32 0xBF800000#32)) concatenates_S2x50176_S2x15360_S2x65536_d1
      (ix2 b (⟨r.val * 128 + l.val, by have := r.isLt; have := l.isLt; omega⟩ : Fin 65536)) rfl rfl
      (ix2 b (⟨r.val * 128 + l.val - 50176, by have := r.isLt; have := l.isLt; omega⟩ : Fin 15360))
      (fun a ha => by
        rcases a with ⟨_ | _ | k, hk⟩
        · show b.val = b.val
          rfl
        · exact absurd rfl ha
        · exact absurd hk (by simp))
      (show r.val * 128 + l.val - 50176 + 50176 = r.val * 128 + l.val by omega)

theorem cutOf_apply {α : Type} (x : S2x512x32.Idx → α) (b : Fin 2) (i : Fin 12544) :
    cutOf x (ix2 b i) = x (ix3 b (⟨i.val % 512, Nat.mod_lt _ (by norm_num)⟩ : Fin 512) (⟨i.val / 512, by have := i.isLt; omega⟩ : Fin 32)) := by
  unfold cutOf
  rw [extractStridedSlice_apply _ _ _ (ix2 b i) (ix2 b (⟨i.val, by have := i.isLt; omega⟩ : Fin 16384)) (fun a => by fin_cases a <;> simp),
    shapeCast_apply _ _ _ (ix3 b (⟨i.val / 512, by have := i.isLt; omega⟩ : Fin 32) (⟨i.val % 512, Nat.mod_lt _ (by norm_num)⟩ : Fin 512))
      (by rw [Shape.rowMajor_val_two, Shape.rowMajor_val_three]; show (b.val * 32 + i.val / 512) * 512 + i.val % 512 = b.val * 16384 + i.val; omega)]
  exact transpose_apply [0, 2, 1] _ _ _ _ (fun a => by fin_cases a <;> rfl)

theorem topV_cut (w : FVec Ideal S2x512x128 .f32) (b : Fin 2) (i : Fin 12544) :
    cutOf (topV (F := Ideal) w) (ix2 b i) = (st136 w).1 (ixAt b ((i.castLE (by norm_num) : Fin 50176).castLE (by norm_num))) := by
  rw [cutOf_apply]
  exact extractStridedSlice_apply _ _ _ _ _ (fun a => by fin_cases a <;> simp [ixAt])

theorem topI_cut (w : FVec Ideal S2x512x128 .f32) (b : Fin 2) (i : Fin 12544) :
    cutOf (topI (F := Ideal) w) (ix2 b i) = (st136 w).2 (ixAt b ((i.castLE (by norm_num) : Fin 50176).castLE (by norm_num))) := by
  rw [cutOf_apply]
  exact extractStridedSlice_apply _ _ _ _ _ (fun a => by fin_cases a <;> simp [ixAt])

end Cert.KernelIdeal.Line
-- ==== Proof.Results.lean ====
module

public import proofs.«01_k».proof.Proof.Layout

/-! # The second and the third result -/

@[expose] public section

set_option maxRecDepth 16384

open Idealize.ShloMosaic Idealize.ShloMosaic.TcCoe Idealize.ShloMosaic.Tactic

namespace Cert.KernelIdeal.Line

open Cert.KernelIdeal Cert.KernelIdeal.Gen Cert.KernelIdeal.Sort Cert.TopNet

variable (V : Valuation Cert.ReferenceIdeal.τ Cert.ReferenceIdeal.sig (Elt Ideal))

/-- The reference's norms. -/
noncomputable def norms : S2x50176.Idx → EReal := Cert.ReferenceIdeal.Value.res_main_v44 (F := Ideal) V

/-- Which pixel has the `i`-th largest norm. -/
noncomputable def pick (b : Fin 2) (i : Fin 12544) : Fin 50176 := order (norms V) b (i.castLE (by norm_num))

/-- The sorted block's kept entries. -/
theorem kept (b : Fin 2) (i : Fin 12544) :
    cutOf (topV (F := Ideal) (padOf (F := Ideal) (norms V))) (ix2 b i) = norms V (ix2 b (pick V b i))
      ∧ cutOf (topI (F := Ideal) (padOf (F := Ideal) (norms V))) (ix2 b i) = BitVec.ofNat 32 (pick V b i).val := by
  have hlt : ∀ y, (FloatOps.ofBits .f32 0xBF800000#32 : Ideal .f32) < norms V y := fun y => by
    unfold norms
    rw [norm_ref]
    exact pad_lt _ _ _ y
  have h := sorted_apply (norms V) _ hlt (padOf (F := Ideal) (norms V)) (padOf_apply (norms V)) b (i.castLE (by norm_num))
  exact ⟨(topV_cut _ b i).trans h.1, (topI_cut _ b i).trans h.2⟩

variable (m : (ℓ : Loc nD τ sig) → Buf (Elt Ideal) ℓ) (ρ : Dev nD → PrngReg) (c : Dev nD)

/-- The values the kernel keeps, of the norms it is given. -/
theorem val_41 (hp : W9 m ρ c (Proc.devRef .tc main_v37) = padOf (F := Ideal) (norms V)) :
    W11 m ρ c (Proc.devRef .tc main_v41) = cutOf (topV (F := Ideal) (padOf (F := Ideal) (norms V))) := by
  rw [cut_41, ← hp]
  exact congrArg cutOf ((W10_arr m ρ c 1).trans (arr_1 (V9 m ρ) c))

/-- The indices the kernel keeps. -/
theorem val_44 (hp : W9 m ρ c (Proc.devRef .tc main_v37) = padOf (F := Ideal) (norms V)) :
    W11 m ρ c (Proc.devRef .tc main_v44) = cutOf (topI (F := Ideal) (padOf (F := Ideal) (norms V))) := by
  rw [cut_44, ← hp]
  exact congrArg cutOf ((W10_arr m ρ c 2).trans (arr_2 (V9 m ρ) c))

/-- The coordinates the kernel gives. -/
theorem val_53 (hp : W9 m ρ c (Proc.devRef .tc main_v37) = padOf (F := Ideal) (norms V)) :
    W11 m ρ c (Proc.devRef .tc main_v53)
      = pairOf (F := Ideal) (cutOf (coordOf (F := Ideal) (rowOf (topI (F := Ideal) (padOf (F := Ideal) (norms V))))))
          (cutOf (coordOf (F := Ideal) (colOf (topI (F := Ideal) (padOf (F := Ideal) (norms V)))))) := by
  rw [pair_53, ← hp]
  exact congrArg₂ (fun x y => pairOf (F := Ideal) (cutOf x) (cutOf y))
    ((W10_arr m ρ c 3).trans (arr_3 (V9 m ρ) c)) ((W10_arr m ρ c 4).trans (arr_4 (V9 m ρ) c))

/-- The reference's values. -/
theorem ref_values : (Host.topK S2x12544 1 (FloatOps.cmpfTotal (F := Ideal) (φ := .f32) .gt) (Cert.ReferenceIdeal.Value.res_main_v44 (F := Ideal) V)
      Cert.ReferenceIdeal.Gen.sliceFits_S2x50176_S2x12544).1
    = cutOf (topV (F := Ideal) (padOf (F := Ideal) (norms V))) := by
  funext y
  obtain ⟨b, i, rfl⟩ : ∃ b i, y = ix2 b i := ⟨y 0, y 1, by funext a; fin_cases a <;> rfl⟩
  exact (topK_values (norms V) _ b i).trans (kept V b i).1.symm

/-- The reference's indices. -/
theorem ref_indices : (Host.topK S2x12544 1 (FloatOps.cmpfTotal (F := Ideal) (φ := .f32) .gt) (Cert.ReferenceIdeal.Value.res_main_v44 (F := Ideal) V)
      Cert.ReferenceIdeal.Gen.sliceFits_S2x50176_S2x12544).2
    = cutOf (topI (F := Ideal) (padOf (F := Ideal) (norms V))) := by
  funext y
  obtain ⟨b, i, rfl⟩ : ∃ b i, y = ix2 b i := ⟨y 0, y 1, by funext a; fin_cases a <;> rfl⟩
  exact (topK_indices (norms V) _ b i).trans (kept V b i).2.symm

end Cert.KernelIdeal.Line
-- ==== Proof.Gather.lean ====
module

public import proofs.«01_k».proof.Proof.Results

/-! # The reference's coordinates: the grid read at the indices kept -/

@[expose] public section

set_option maxRecDepth 16384

open Idealize.ShloMosaic Idealize.ShloMosaic.TcCoe Idealize.ShloMosaic.Tactic

namespace Cert.TopNet

/-- The dimension numbers of reading `[B, N, C]` along its middle axis at indices `[B, R, C, 1]`. -/
abbrev midDims (B N R C : Nat)
    (wf : GatherDims.WF ⟨3, ![B, N, C]⟩ ⟨4, ![B, R, C, 1]⟩ ⟨3, ![B, R, C]⟩ [] [1] [0, 2] [1] [0, 2] 3 ![1, 1, 1]) :
    GatherDims ⟨3, ![B, N, C]⟩ ⟨4, ![B, R, C, 1]⟩ ⟨3, ![B, R, C]⟩ where
  offsetDims := []
  collapsedSliceDims := [1]
  operandBatchingDims := [0, 2]
  startIndicesBatchingDims := [0, 2]
  startIndexMap := [1]
  indexVectorDim := 3
  sliceSizes := ![1, 1, 1]
  wf := wf

/-- Such a read at an index in range. -/
theorem mid_apply {α : Type} {B N R C : Nat}
    (wf : GatherDims.WF ⟨3, ![B, N, C]⟩ ⟨4, ![B, R, C, 1]⟩ ⟨3, ![B, R, C]⟩ [] [1] [0, 2] [1] [0, 2] 3 ![1, 1, 1])
    (x : (⟨3, ![B, N, C]⟩ : Shape).Idx → α) (idx : IVec ⟨4, ![B, R, C, 1]⟩ 32) (b : Fin B) (i : Fin R) (k : Fin C) (n : Fin N)
    (h : (idx (ix4 b i k 0)).toInt = (n.val : ℤ)) : Host.gather (midDims B N R C wf) x idx (ix3 b i k) = x (ix3 b n k) := by
  unfold Host.gather
  congr 1
  funext a
  refine Fin.ext ?_
  show (midDims B N R C wf).start (ix3 b i k) idx a + (midDims B N R C wf).batchCoord (ix3 b i k) a
      + (midDims B N R C wf).offCoord (ix3 b i k) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (show (0 : Fin 3) ∈ [0, 2] by decide),
      GatherDims.offCoord_eq_zero _ _ _ (fun h => ((GatherDims.mem_sKept _ _).mp h).2 (show (0 : Fin 3) ∈ [0, 2] by decide))]
    unfold GatherDims.batchCoord
    rw [dif_pos (show (0 : Fin 3) ∈ [0, 2] by decide)]
    exact (Nat.add_zero _).trans (Nat.zero_add _)
  · rw [GatherDims.batchCoord_eq_zero _ _ _ (show ¬ (1 : Fin 3) ∈ [0, 2] by decide),
      GatherDims.offCoord_eq_zero _ _ _ (fun h => ((GatherDims.mem_sKept _ _).mp h).1 (show (1 : Fin 3) ∈ [1] by decide))]
    unfold GatherDims.start
    rw [dif_pos (show (1 : Fin 3) ∈ [1] by decide)]
    have hsi : (midDims B N R C wf).siIdx (ix3 b i k) ⟨List.idxOf (1 : Fin 3) (midDims B N R C wf).startIndexMap,
        List.idxOf_lt_length_iff.2 (List.mem_singleton.mpr rfl)⟩ = ix4 b i k 0 := by
      funext q; refine Fin.ext ?_
      match q with
      | ⟨0, _⟩ => rfl
      | ⟨1, _⟩ => rfl
      | ⟨2, _⟩ => rfl
      | ⟨3, _⟩ => rfl
    rw [hsi, h]
    show min ((n.val : ℤ).toNat) (N - 1) + 0 + 0 = n.val
    have := n.isLt
    omega
  · rw [GatherDims.start_batching _ _ _ _ (show (2 : Fin 3) ∈ [0, 2] by decide),
      GatherDims.offCoord_eq_zero _ _ _ (fun h => ((GatherDims.mem_sKept _ _).mp h).2 (show (2 : Fin 3) ∈ [0, 2] by decide))]
    unfold GatherDims.batchCoord
    rw [dif_pos (show (2 : Fin 3) ∈ [0, 2] by decide)]
    exact (Nat.add_zero _).trans (Nat.zero_add _)

theorem slt_zero_word (n : Nat) (h : n < 2 ^ 31) : IntOp.cmpi .slt (BitVec.ofNat 32 n) 0#32 = 0#1 := by
  have e : (BitVec.ofNat 32 n).slt 0#32 = false := by
    rw [BitVec.slt_eq_decide, toInt_word n h]; simp
  show BitVec.ofBool _ = _
  rw [e]; rfl

theorem sge_zero_word (n : Nat) (h : n < 2 ^ 31) : IntOp.cmpi .sge (BitVec.ofNat 32 n) 0#32 = 1#1 := by
  have e : (0#32).sle (BitVec.ofNat 32 n) = true := by
    rw [BitVec.sle_eq_decide, toInt_word n h]; simp
  show BitVec.ofBool _ = _
  rw [e]; rfl

theorem sle_word (n : Nat) (h : n < 50176) : IntOp.cmpi .sle (BitVec.ofNat 32 n) 50175#32 = 1#1 := by
  have e : (BitVec.ofNat 32 n).sle 50175#32 = true := by
    rw [BitVec.sle_eq_decide, toInt_word n (by omega), toInt_word 50175 (by norm_num)]
    exact decide_eq_true (by omega)
  show BitVec.ofBool _ = _
  rw [e]; rfl

theorem select_one {s : Shape} {α : Type} (c : IVec s 1) (x y : s.Idx → α) (j : s.Idx) (h : c j = 1#1) : select c x y j = x j :=
  if_pos h

theorem select_zero {s : Shape} {α : Type} (c : IVec s 1) (x y : s.Idx → α) (j : s.Idx) (h : c j = 0#1) : select c x y j = y j :=
  if_neg (by rw [h]; decide)

/-- A conjunction of true bits is true. -/
theorem all_ones {s t u : Shape} {axes : List (Fin s.rank)} (x : IVec s 1) (init : IVec u 1) (h : s.ReducesTo axes t)
    (hu : 0 < u.numel) (hx : ∀ i, x i = 1#1) (hi : ∀ i, init i = 1#1) (j : t.Idx) : Host.reduce IntOp.andi x init h hu j = 1#1 := by
  unfold Host.reduce
  generalize (List.finRange s.numel).filter _ = l
  rw [hi]
  induction l with
  | nil => rfl
  | cons a l ih =>
    rw [List.foldl_cons, hx]
    exact ih

end Cert.TopNet

namespace Cert.KernelIdeal.Line

open Cert.KernelIdeal Cert.KernelIdeal.Gen Cert.KernelIdeal.Sort Cert.TopNet

variable (V : Valuation Cert.ReferenceIdeal.τ Cert.ReferenceIdeal.sig (Elt Ideal))

/-- The index each coordinate is read at. -/
theorem at_46 (b : Fin 2) (i : Fin 12544) (k : Fin 2) :
    Cert.ReferenceIdeal.Value.res_main_v46 (F := Ideal) V (ix3 b i k) = BitVec.ofNat 32 (pick V b i).val := by
  unfold Cert.ReferenceIdeal.Value.res_main_v46
  pointwise
  exact topK_indices (norms V) _ b i

theorem at_call3 (b : Fin 2) (i : Fin 12544) (k : Fin 2) :
    Cert.ReferenceIdeal.Value.res_main_call3_v5 (F := Ideal) V (ix4 b i k 0) = BitVec.ofNat 32 (pick V b i).val := by
  unfold Cert.ReferenceIdeal.Value.res_main_call3_v5
  refine (shapeCast_apply (t := Cert.ReferenceIdeal.S2x12544x2x1) _ _ (ix4 b i k 0) (ix3 b i k)
    (by rw [Shape.rowMajor_val_three, Shape.rowMajor_val_four]; show (b.val * 12544 + i.val) * 2 + k.val = ((b.val * 12544 + i.val) * 2 + k.val) * 1 + 0; omega)).trans ?_
  have hlt := (pick V b i).isLt
  refine (select_zero _ _ _ _ ?_).trans (at_46 V b i k)
  refine (congrArg (fun w => IntOp.cmpi .slt w 0#32) (at_46 V b i k)).trans ?_
  exact slt_zero_word _ (by omega)

/-- Every index lies in range. -/
theorem in_range (y : Cert.ReferenceIdeal.S2x12544x2x1.Idx) :
    (andi (cmpi .sge (Cert.ReferenceIdeal.Value.res_main_call3_v5 (F := Ideal) V)
        (broadcastInDim Cert.ReferenceIdeal.S2x12544x2x1 ![] Cert.ReferenceIdeal.Gen.bcast_S_S2x12544x2x1 (constantI Cert.ReferenceIdeal.S_ 32 0#32)))
      (cmpi .sle (Cert.ReferenceIdeal.Value.res_main_call3_v5 (F := Ideal) V)
        (broadcastInDim Cert.ReferenceIdeal.S2x12544x2x1 ![0, 1, 2, 3] Cert.ReferenceIdeal.Gen.bcast_S1x1x1x1_S2x12544x2x1_0_1_2_3
          (broadcastInDim Cert.ReferenceIdeal.S1x1x1x1 ![3] Cert.ReferenceIdeal.Gen.bcast_S1_S1x1x1x1_3 (constantI Cert.ReferenceIdeal.S1 32 50175#32))))) y = 1#1 := by
  obtain ⟨b, i, k, rfl⟩ : ∃ b i k, y = ix4 b i k 0 := ⟨y 0, y 1, y 2, by
    funext a; fin_cases a
    · rfl
    · rfl
    · rfl
    · exact Subsingleton.elim (α := Fin 1) _ _⟩
  have hlt := (pick V b i).isLt
  show IntOp.andi (IntOp.cmpi .sge (Cert.ReferenceIdeal.Value.res_main_call3_v5 (F := Ideal) V (ix4 b i k 0)) 0#32)
    (IntOp.cmpi .sle (Cert.ReferenceIdeal.Value.res_main_call3_v5 (F := Ideal) V (ix4 b i k 0)) 50175#32) = 1#1
  rw [at_call3, sge_zero_word _ (by omega), sle_word _ (by omega)]
  rfl

/-- The reference's coordinates. -/
theorem ref_coords (b : Fin 2) (i : Fin 12544) (k : Fin 2) :
    select (Host.reduce IntOp.andi
        (andi (cmpi .sge (Cert.ReferenceIdeal.Value.res_main_call3_v5 (F := Ideal) V)
            (broadcastInDim Cert.ReferenceIdeal.S2x12544x2x1 ![] Cert.ReferenceIdeal.Gen.bcast_S_S2x12544x2x1 (constantI Cert.ReferenceIdeal.S_ 32 0#32)))
          (cmpi .sle (Cert.ReferenceIdeal.Value.res_main_call3_v5 (F := Ideal) V)
            (broadcastInDim Cert.ReferenceIdeal.S2x12544x2x1 ![0, 1, 2, 3] Cert.ReferenceIdeal.Gen.bcast_S1x1x1x1_S2x12544x2x1_0_1_2_3
              (broadcastInDim Cert.ReferenceIdeal.S1x1x1x1 ![3] Cert.ReferenceIdeal.Gen.bcast_S1_S1x1x1x1_3 (constantI Cert.ReferenceIdeal.S1 32 50175#32)))))
        (constantI Cert.ReferenceIdeal.S_ 1 1#1) Cert.ReferenceIdeal.Gen.reducesTo_S2x12544x2x1_S2x12544x2_d3 Cert.ReferenceIdeal.Gen.h_S_)
      (Host.gather Cert.ReferenceIdeal.gather_S2x50176x2_S2x12544x2x1_S2x12544x2_n_1_02_02_1_3_111
        (Cert.ReferenceIdeal.Value.res_main_v9 (F := Ideal) V) (Cert.ReferenceIdeal.Value.res_main_call3_v5 (F := Ideal) V))
      (broadcastInDim Cert.ReferenceIdeal.S2x12544x2 ![] Cert.ReferenceIdeal.Gen.bcast_S_S2x12544x2 (constant (F := Ideal) Cert.ReferenceIdeal.S_ .f32 0x7FC00000#32))
      (ix3 b i k) = grid (F := Ideal) (ix2 (pick V b i) k) := by
  have hlt := (pick V b i).isLt
  refine (select_one _ _ _ _ (all_ones _ _ _ _ (in_range V) (fun _ => rfl) _)).trans ?_
  refine (mid_apply Cert.ReferenceIdeal.Gen.gather_S2x50176x2_S2x12544x2x1_S2x12544x2_n_1_02_02_1_3_111_wf _ _ b i k (pick V b i) ?_).trans ?_
  · rw [at_call3]
    exact toInt_word _ (by omega)
  · exact coords_apply V b (pick V b i) k

end Cert.KernelIdeal.Line
-- ==== Proof.Grid.lean ====
module

public import proofs.«01_k».proof.Proof.Gather
public import Idealize.ShloMosaic.Lib.Routing.Words
public import Idealize.ShloMosaic.Lib.Pointwise

/-! # The grid's coordinates are those the kernel computes -/

@[expose] public section

set_option maxRecDepth 16384

open Idealize.ShloMosaic Idealize.ShloMosaic.TcCoe Idealize.ShloMosaic.Tactic

namespace Cert.KernelIdeal.Line

open Cert.KernelIdeal Cert.KernelIdeal.Gen Cert.KernelIdeal.Sort Cert.TopNet

theorem one_word : (Ideal.ofBits FTy.f32 0x3F800000#32 : EReal) = ((1 : ℝ) : EReal) := by
  simp [Ideal.ofBits, Ideal.ieee, -EReal.coe_mul]; norm_num

theorem neg_word : (Ideal.ofBits FTy.f32 0xBF800000#32 : EReal) = ((-1 : ℝ) : EReal) := by
  simp [Ideal.ofBits, Ideal.ieee, -EReal.coe_mul]; norm_num

theorem size_word : (Ideal.ofBits FTy.f32 0x435F0000#32 : EReal) = ((223 : ℝ) : EReal) := by
  simp [Ideal.ofBits, Ideal.ieee, -EReal.coe_mul]; norm_num

theorem frac_apply (i : Fin 223) : frac (F := Ideal) (ix1 i) = (((i.val : ℝ) / 223 : ℝ) : EReal) := by
  have hi := i.isLt
  show Ideal.div ((((BitVec.ofNat 32 i.val).toInt : ℝ) : ℝ) : EReal) (Ideal.ofBits FTy.f32 0x435F0000#32) = _
  rw [size_word, toInt_word _ (by omega), Ideal.div_coe (by norm_num), ← EReal.coe_mul]
  congr 1
  push_cast
  ring

/-- The `i`-th of the evenly spaced numbers. -/
theorem lin_apply (i : Fin 224) : lin (F := Ideal) (ix1 i) = (((i.val : ℝ) * (2 / 223) - 1 : ℝ) : EReal) := by
  have hi := i.isLt
  unfold lin
  by_cases h : i.val < 223
  · refine (concatenate_pair_apply_left (t := S224) (s₁ := S223) (s₂ := S1) 0 _ _ concatenates_S223_S1_S224_d0 (ix1 i) rfl
      (ix1 (⟨i.val, h⟩ : Fin 223)) (fun a => by fin_cases a; rfl)).trans ?_
    show (Ideal.ofBits FTy.f32 0xBF800000#32 : EReal) * ((Ideal.ofBits FTy.f32 0x3F800000#32 : EReal) - frac (F := Ideal) (ix1 (⟨i.val, h⟩ : Fin 223)))
      + (Ideal.ofBits FTy.f32 0x3F800000#32 : EReal) * frac (F := Ideal) (ix1 (⟨i.val, h⟩ : Fin 223)) = _
    rw [frac_apply, one_word, neg_word, ← EReal.coe_sub, ← EReal.coe_mul, ← EReal.coe_mul, ← EReal.coe_add]
    congr 1
    ring
  · have e : i.val = 223 := by omega
    refine (concatenate_pair_apply_right (t := S224) (s₁ := S223) (s₂ := S1) 0 _ _ concatenates_S223_S1_S224_d0 (ix1 i) rfl rfl
      (ix1 (0 : Fin 1)) (fun a ha => by fin_cases a; exact absurd rfl ha) (by show 0 + 223 = i.val; omega)).trans ?_
    show (Ideal.ofBits FTy.f32 0x3F800000#32 : EReal) = _
    rw [one_word, e]
    norm_num

theorem grid_row (n : Fin 50176) : grid (F := Ideal) (ix2 n 0) = ((((n.val / 224 : ℕ) : ℝ) * (2 / 223) - 1 : ℝ) : EReal) := by
  have hn := n.isLt
  unfold grid
  refine (shapeCast_apply _ _ (ix2 n 0) (ix3 (⟨n.val / 224, by omega⟩ : Fin 224) (⟨n.val % 224, by omega⟩ : Fin 224) (0 : Fin 2))
    (by rw [Shape.rowMajor_val_two, Shape.rowMajor_val_three]; show (n.val / 224 * 224 + n.val % 224) * 2 + 0 = n.val * 2 + 0; omega)).trans ?_
  refine (concatenate_pair_apply_left (t := S224x224x2) (s₁ := S224x224x1) (s₂ := S224x224x1) 2 _ _ concatenates_S224x224x1_S224x224x1_S224x224x2_d2 _ rfl
    (ix3 (⟨n.val / 224, by omega⟩ : Fin 224) (⟨n.val % 224, by omega⟩ : Fin 224) (0 : Fin 1)) (fun a => by fin_cases a <;> rfl)).trans ?_
  pointwise
  exact lin_apply _

theorem grid_col (n : Fin 50176) : grid (F := Ideal) (ix2 n 1) = ((((n.val % 224 : ℕ) : ℝ) * (2 / 223) - 1 : ℝ) : EReal) := by
  have hn := n.isLt
  unfold grid
  refine (shapeCast_apply _ _ (ix2 n 1) (ix3 (⟨n.val / 224, by omega⟩ : Fin 224) (⟨n.val % 224, by omega⟩ : Fin 224) (1 : Fin 2))
    (by rw [Shape.rowMajor_val_two, Shape.rowMajor_val_three]; show (n.val / 224 * 224 + n.val % 224) * 2 + 1 = n.val * 2 + 1; omega)).trans ?_
  refine (concatenate_pair_apply_right (t := S224x224x2) (s₁ := S224x224x1) (s₂ := S224x224x1) 2 _ _ concatenates_S224x224x1_S224x224x1_S224x224x2_d2 _ rfl rfl
    (ix3 (⟨n.val / 224, by omega⟩ : Fin 224) (⟨n.val % 224, by omega⟩ : Fin 224) (0 : Fin 1))
    (fun a ha => by
      fin_cases a
      · rfl
      · rfl
      · exact absurd rfl ha) rfl).trans ?_
  pointwise
  exact lin_apply _

/-- The quotient by 224 rounded down, of one word. -/
noncomputable def rowWord (w : BitVec 32) : BitVec 32 :=
  if IntOp.andi (IntOp.cmpi .ne (IntOp.subi ((IntOp.cmpi .sgt w 0#32).setWidth 32) ((IntOp.cmpi .slt w 0#32).setWidth 32))
      (Scalar.subi (Scalar.extui (Scalar.cmpi .sgt 224#32 0#32)) (Scalar.extui (Scalar.cmpi .slt 224#32 0#32))))
      (IntOp.cmpi .ne (IntOp.remsi .vector w 224#32) 0#32) = 1#1
  then IntOp.subi (IntOp.divsi .vector w 224#32) 1#32 else IntOp.divsi .vector w 224#32

theorem rowOf_apply (x : IVec S2x512x32 32) (y : S2x512x32.Idx) : rowOf x y = rowWord (x y) := rfl

theorem rowWord_word (n : Nat) (h : n < 50176) : rowWord (BitVec.ofNat 32 n) = BitVec.ofNat 32 (n / 224) := by
  have hd : IntOp.divsi .vector (BitVec.ofNat 32 n) 224#32 = BitVec.ofNat 32 (n / 224) :=
    Routing.divsi_word .vector (a := n) (b := 224) (by omega) (by norm_num) (by norm_num)
  have hr : IntOp.remsi .vector (BitVec.ofNat 32 n) 224#32 = BitVec.ofNat 32 (n % 224) :=
    Routing.remsi_word .vector (a := n) (b := 224) (by omega) (by norm_num) (by norm_num)
  unfold rowWord
  rw [hd, hr, slt_zero_word n (by omega), if_neg]
  rcases Nat.eq_zero_or_pos n with rfl | hp
  · decide
  · have hg : IntOp.cmpi .sgt (BitVec.ofNat 32 n) 0#32 = 1#1 := by
      have e : (0#32).slt (BitVec.ofNat 32 n) = true := by
        rw [BitVec.slt_eq_decide, toInt_word n (by omega)]; simpa using hp
      show BitVec.ofBool _ = _
      rw [e]; rfl
    rw [hg]
    generalize IntOp.cmpi .ne (BitVec.ofNat 32 (n % 224)) 0#32 = v
    revert v
    decide

theorem colOf_word (x : IVec S2x512x32 32) (y : S2x512x32.Idx) (n : Nat) (h : n < 50176) (hx : x y = BitVec.ofNat 32 n) :
    colOf x y = BitVec.ofNat 32 (n % 224) := by
  show x y - rowOf x y * 224#32 = _
  rw [rowOf_apply, hx, rowWord_word n h]
  apply BitVec.eq_of_toNat_eq
  simp only [BitVec.toNat_sub, BitVec.toNat_mul, BitVec.toNat_ofNat]
  omega

theorem coordOf_word (x : IVec S2x512x32 32) (y : S2x512x32.Idx) (n : Nat) (h : n < 224) (hx : x y = BitVec.ofNat 32 n) :
    coordOf (F := Ideal) x y = (((n : ℝ) * (2 / 223) - 1 : ℝ) : EReal) := by
  show ((((x y).toInt : ℝ) : ℝ) : EReal) * (Named.named κ "step" 0x3C12F114#32 : Ideal .f32) - (Ideal.ofBits FTy.f32 0x3F800000#32 : EReal) = _
  have hs : (Named.named κ "step" 0x3C12F114#32 : Ideal .f32) = (((2 / 223 : ℝ)) : EReal) := by
    rw [IdealRules.named_const.ideal_named_scalar _ _ _ _ rfl]
  rw [hx, toInt_word n (by omega), hs, one_word]
  norm_cast

end Cert.KernelIdeal.Line
-- ==== Proof.Algebraic.lean ====
module

public import proofs.«01_k».proof.Proof.Claims
public import proofs.«01_k».proof.Proof.KRun
public import proofs.«01_k».proof.Proof.Grid

/-! # The kernel computes what the reference computes -/

@[expose] public section

set_option maxRecDepth 16384

open Idealize.ShloMosaic Idealize.ShloMosaic.TcCoe Idealize.ShloMosaic.Tactic Idealize.SL.Sem

namespace Cert.KernelIdeal.Line

open Cert.KernelIdeal Cert.KernelIdeal.Gen Cert.KernelIdeal.Sort Cert.TopNet

variable (V : Valuation Cert.ReferenceIdeal.τ Cert.ReferenceIdeal.sig (Elt Ideal))

theorem pairOf_left (x y : FVec Ideal S2x12544 .f32) (b : Fin 2) (i : Fin 12544) : pairOf (F := Ideal) x y (ix3 b i 0) = x (ix2 b i) := by
  unfold pairOf
  refine (concatenate_pair_apply_left (t := S2x12544x2) (s₁ := S2x12544x1) (s₂ := S2x12544x1) 2 _ _ concatenates_S2x12544x1_S2x12544x1_S2x12544x2_d2 _ rfl
    (ix3 b i (0 : Fin 1)) (fun a => by fin_cases a <;> rfl)).trans ?_
  pointwise

theorem pairOf_right (x y : FVec Ideal S2x12544 .f32) (b : Fin 2) (i : Fin 12544) : pairOf (F := Ideal) x y (ix3 b i 1) = y (ix2 b i) := by
  unfold pairOf
  refine (concatenate_pair_apply_right (t := S2x12544x2) (s₁ := S2x12544x1) (s₂ := S2x12544x1) 2 _ _ concatenates_S2x12544x1_S2x12544x1_S2x12544x2_d2 _ rfl rfl
    (ix3 b i (0 : Fin 1)) (fun a ha => by
      fin_cases a
      · rfl
      · rfl
      · exact absurd rfl ha) rfl).trans ?_
  pointwise

/-- The kernel's coordinates are the grid's at the pixels picked. -/
theorem pair_apply (b : Fin 2) (i : Fin 12544) (k : Fin 2) :
    pairOf (F := Ideal) (cutOf (coordOf (F := Ideal) (rowOf (topI (F := Ideal) (padOf (F := Ideal) (norms V))))))
      (cutOf (coordOf (F := Ideal) (colOf (topI (F := Ideal) (padOf (F := Ideal) (norms V)))))) (ix3 b i k)
      = grid (F := Ideal) (ix2 (pick V b i) k) := by
  have hlt := (pick V b i).isLt
  have hk := (kept V b i).2
  rw [cutOf_apply] at hk
  have hk2 : k = 0 ∨ k = 1 := by
    match k with
    | ⟨0, _⟩ => exact Or.inl rfl
    | ⟨1, _⟩ => exact Or.inr rfl
  rcases hk2 with rfl | rfl
  · rw [pairOf_left, cutOf_apply, grid_row]
    refine coordOf_word _ _ _ (by omega) ?_
    rw [rowOf_apply, hk]
    exact rowWord_word _ hlt
  · rw [pairOf_right, cutOf_apply, grid_col]
    exact coordOf_word _ _ _ (by omega) (colOf_word _ _ _ hlt hk)

end Cert.KernelIdeal.Line

namespace Cert.Proof

open Cert.KernelIdeal.Line Idealize.ShloMosaic.StableHlo

theorem algebraic : Cert.algebraic_KernelIdeal_ReferenceIdeal := by
  intro m ρ m' ρ' _ hagree
  refine ⟨_, _, _, Cert.KernelIdeal.Out.run (F := Ideal) m ρ, ?_⟩
  have hp : ∀ c, Cert.KernelIdeal.Gen.W9 m ρ c (Proc.devRef .tc Cert.KernelIdeal.main_v37)
      = padOf (F := Ideal) (norms (launchContents m' c)) := fun c =>
    pad_eq (launchContents m' c) m ρ c (hagree c).1.symm (hagree c).2.1.symm (hagree c).2.2.1.symm (hagree c).2.2.2.1.symm
      (hagree c).2.2.2.2.1.symm (hagree c).2.2.2.2.2.1.symm (hagree c).2.2.2.2.2.2.symm
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · refine Eq.trans ?_ (val_53 (launchContents m' c) m ρ c (hp c)).symm
    funext y
    obtain ⟨b, i, k, rfl⟩ : ∃ b i k, y = ix3 b i k := ⟨y 0, y 1, y 2, by funext a; fin_cases a <;> rfl⟩
    exact (ref_coords (launchContents m' c) b i k).trans (pair_apply (launchContents m' c) b i k).symm
  · exact (ref_values (launchContents m' c)).trans (val_41 (launchContents m' c) m ρ c (hp c)).symm
  · exact (ref_indices (launchContents m' c)).trans (val_44 (launchContents m' c) m ρ c (hp c)).symm

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Claims
public import proofs.«01_k».proof.Proof.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
    frame_p, frame_pi, frame_ri, preserves, algebraic⟩

end Cert.Proof

end
